-- ==== Defs.lean ====
def Pre_Kernel [hPre_in_canvas : Cert.Pre_in_canvas.Facts] (m : (ℓ : Loc Cert.Kernel.nD Cert.Kernel.τ Cert.Kernel.sig) → Buf (Elt Bits) ℓ) : Prop :=
  ∀ c : Dev Cert.Kernel.nD,
    (Cert.Pre_in_canvas.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_canvas : Cert.Pre_in_canvas.Facts] (m : (ℓ : Loc Cert.KernelIdeal.nD Cert.KernelIdeal.τ Cert.KernelIdeal.sig) → Buf (Elt Ideal) ℓ) : Prop :=
  ∀ c : Dev Cert.KernelIdeal.nD,
    (Cert.Pre_in_canvas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_canvas_some_mass [hPre_in_canvas_some_mass : Cert.Pre_in_canvas_some_mass.Facts] (m : (ℓ : Loc Cert.KernelIdeal.nD Cert.KernelIdeal.τ Cert.KernelIdeal.sig) → Buf (Elt Ideal) ℓ) : Prop :=
  ∀ c : Dev Cert.KernelIdeal.nD,
    (Cert.Pre_in_canvas_some_mass.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_canvas_some_mass [hPre_in_canvas_some_mass : Cert.Pre_in_canvas_some_mass.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_canvas_some_mass.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_canvas : Cert.Pre_in_canvas.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_canvas : Cert.Pre_in_canvas.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_canvas_some_mass [hKernelIdeal : Cert.KernelIdeal.Facts] [hPre_in_canvas_some_mass : Cert.Pre_in_canvas_some_mass.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_canvas_some_mass m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_canvas_some_mass [hReferenceIdeal : Cert.ReferenceIdeal.Facts] [hPre_in_canvas_some_mass : Cert.Pre_in_canvas_some_mass.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_canvas_some_mass m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_canvas_some_mass [hKernelIdeal : Cert.KernelIdeal.Facts] [hReferenceIdeal : Cert.ReferenceIdeal.Facts] [hPre_in_canvas_some_mass : Cert.Pre_in_canvas_some_mass.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_canvas_some_mass m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_v280) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_canvas : Cert.Pre_in_canvas.Facts) (hPre_in_canvas_some_mass : Cert.Pre_in_canvas_some_mass.Facts),
    quiescent_Kernel (hKernel := hKernel) (hPre_in_canvas := hPre_in_canvas)
    ∧ quiescent_KernelIdeal (hKernelIdeal := hKernelIdeal) (hPre_in_canvas := hPre_in_canvas)
    ∧ quiescent_KernelIdeal_pre_in_canvas_some_mass (hKernelIdeal := hKernelIdeal) (hPre_in_canvas_some_mass := hPre_in_canvas_some_mass)
    ∧ quiescent_ReferenceIdeal (hReferenceIdeal := hReferenceIdeal)
    ∧ quiescent_ReferenceIdeal_pre_in_canvas_some_mass (hReferenceIdeal := hReferenceIdeal) (hPre_in_canvas_some_mass := hPre_in_canvas_some_mass)
    ∧ preserves_Kernel_KernelIdeal
    ∧ algebraic_KernelIdeal_ReferenceIdeal_pre_in_canvas_some_mass (hKernelIdeal := hKernelIdeal) (hReferenceIdeal := hReferenceIdeal) (hPre_in_canvas_some_mass := hPre_in_canvas_some_mass)
-- ==== Pre_in_canvas.lean ====
abbrev S2x6x23x160x160 : Shape := ⟨5, ![2, 6, 23, 160, 160]⟩
abbrev S2x23x50x50x50 : Shape := ⟨5, ![2, 23, 50, 50, 50]⟩
abbrev S2x1x3 : Shape := ⟨3, ![2, 1, 3]⟩
abbrev S2x6x2 : Shape := ⟨3, ![2, 6, 2]⟩
abbrev S2x6x1 : Shape := ⟨3, ![2, 6, 1]⟩
abbrev S2x6 : Shape := ⟨2, ![2, 6]⟩
abbrev S_ : Shape := ⟨0, ![]⟩

class Facts : Prop where
  slices_S2x6x2_S2x6x1_0_0_0 : S2x6x2.Slices ![0, 0, 0] S2x6x1
  shapeCasts_S2x6x1_S2x6 : S2x6x1.ShapeCasts S2x6
  slices_S2x6x2_S2x6x1_0_0_1 : S2x6x2.Slices ![0, 0, 1] S2x6x1
  bcast_S_S2x6 : S_.BroadcastsInDim S2x6 (![] : Fin 0 → Fin S2x6.rank)

variable [Facts]

def fn {F : FTy → Type} [FloatOps F] (main_arg0 : FVec F S2x6x23x160x160 .f32) (main_arg1 : FVec F S2x23x50x50x50 .f32) (main_arg2 : FVec F S2x1x3 .f32) (main_arg3 : IVec S2x6x2 32) : IVec S2x6 1 :=
  let main_v0 : IVec S2x6x1 32 := (extractStridedSlice S2x6x1 ![0, 0, 0] · slices_S2x6x2_S2x6x1_0_0_0) main_arg3
  let main_v1 : IVec S2x6 32 := shapeCast S2x6 main_v0 shapeCasts_S2x6x1_S2x6
  let main_v2 : IVec S2x6x1 32 := (extractStridedSlice S2x6x1 ![0, 0, 1] · slices_S2x6x2_S2x6x1_0_0_1) main_arg3
  let main_v3 : IVec S2x6 32 := shapeCast S2x6 main_v2 shapeCasts_S2x6x1_S2x6
  let main_c : IVec S_ 32 := constantI S_ 32 160#32
  let main_v4 : IVec S2x6 32 := broadcastInDim S2x6 ![] bcast_S_S2x6 main_c
  let main_v5 : IVec S2x6 1 := cmpi .sge main_v1 main_v4
  let main_c_0 : IVec S_ 32 := constantI S_ 32 1120#32
  let main_v6 : IVec S2x6 32 := broadcastInDim S2x6 ![] bcast_S_S2x6 main_c_0
  let main_v7 : IVec S2x6 1 := cmpi .slt main_v1 main_v6
  let main_v8 : IVec S2x6 1 := andi main_v5 main_v7
  let main_c_1 : IVec S_ 32 := constantI S_ 32 160#32
  let main_v9 : IVec S2x6 32 := broadcastInDim S2x6 ![] bcast_S_S2x6 main_c_1
  let main_v10 : IVec S2x6 1 := cmpi .sge main_v3 main_v9
  let main_v11 : IVec S2x6 1 := andi main_v8 main_v10
  let main_c_2 : IVec S_ 32 := constantI S_ 32 864#32
  let main_v12 : IVec S2x6 32 := broadcastInDim S2x6 ![] bcast_S_S2x6 main_c_2
  let main_v13 : IVec S2x6 1 := cmpi .slt main_v3 main_v12
  let main_v14 : IVec S2x6 1 := andi main_v11 main_v13
  main_v14
-- ==== Pre_in_canvas_some_mass.lean ====
abbrev S2x6x23x160x160 : Shape := ⟨5, ![2, 6, 23, 160, 160]⟩
abbrev S2x23x50x50x50 : Shape := ⟨5, ![2, 23, 50, 50, 50]⟩
abbrev S2x1x3 : Shape := ⟨3, ![2, 1, 3]⟩
abbrev S2x6x2 : Shape := ⟨3, ![2, 6, 2]⟩
abbrev S2x6x1 : Shape := ⟨3, ![2, 6, 1]⟩
abbrev S2x6 : Shape := ⟨2, ![2, 6]⟩
abbrev S_ : Shape := ⟨0, ![]⟩
abbrev S2x23 : Shape := ⟨2, ![2, 23]⟩
abbrev S2x1x23 : Shape := ⟨3, ![2, 1, 23]⟩
abbrev S2x6x23 : Shape := ⟨3, ![2, 6, 23]⟩

class Facts : Prop where
  slices_S2x6x2_S2x6x1_0_0_0 : S2x6x2.Slices ![0, 0, 0] S2x6x1
  shapeCasts_S2x6x1_S2x6 : S2x6x1.ShapeCasts S2x6
  slices_S2x6x2_S2x6x1_0_0_1 : S2x6x2.Slices ![0, 0, 1] S2x6x1
  bcast_S_S2x6 : S_.BroadcastsInDim S2x6 (![] : Fin 0 → Fin S2x6.rank)
  bcast_S_S2x23x50x50x50 : S_.BroadcastsInDim S2x23x50x50x50 (![] : Fin 0 → Fin S2x23x50x50x50.rank)
  reducesTo_S2x23x50x50x50_S2x23_d2_3_4 : S2x23x50x50x50.ReducesTo [2, 3, 4] S2x23
  h_S_ : 0 < S_.numel
  bcast_S2x6_S2x6x1_0_1 : S2x6.BroadcastsInDim S2x6x1 (![0, 1] : Fin 2 → Fin S2x6x1.rank)
  bcast_S2x23_S2x1x23_0_2 : S2x23.BroadcastsInDim S2x1x23 (![0, 2] : Fin 2 → Fin S2x1x23.rank)
  bcast_S2x6x1_S2x6x23_0_1_2 : S2x6x1.BroadcastsInDim S2x6x23 (![0, 1, 2] : Fin 3 → Fin S2x6x23.rank)
  bcast_S2x1x23_S2x6x23_0_1_2 : S2x1x23.BroadcastsInDim S2x6x23 (![0, 1, 2] : Fin 3 → Fin S2x6x23.rank)

variable [Facts]

def fn_part1 {F : FTy → Type} [FloatOps F] (main_v14 : IVec S2x6 1) (main_v17 : IVec S2x23 1) : IVec S2x6x23 1 :=
  let main_v18 : IVec S2x6x1 1 := broadcastInDim S2x6x1 ![0, 1] bcast_S2x6_S2x6x1_0_1 main_v14
  let main_v19 : IVec S2x1x23 1 := broadcastInDim S2x1x23 ![0, 2] bcast_S2x23_S2x1x23_0_2 main_v17
  let main_v20 : IVec S2x6x23 1 := broadcastInDim S2x6x23 ![0, 1, 2] bcast_S2x6x1_S2x6x23_0_1_2 main_v18
  let main_v21 : IVec S2x6x23 1 := broadcastInDim S2x6x23 ![0, 1, 2] bcast_S2x1x23_S2x6x23_0_1_2 main_v19
  let main_v22 : IVec S2x6x23 1 := andi main_v20 main_v21
  main_v22

def fn {F : FTy → Type} [FloatOps F] (main_arg0 : FVec F S2x6x23x160x160 .f32) (main_arg1 : FVec F S2x23x50x50x50 .f32) (main_arg2 : FVec F S2x1x3 .f32) (main_arg3 : IVec S2x6x2 32) : IVec S2x6x23 1 :=
  let main_v0 : IVec S2x6x1 32 := (extractStridedSlice S2x6x1 ![0, 0, 0] · slices_S2x6x2_S2x6x1_0_0_0) main_arg3
  let main_v1 : IVec S2x6 32 := shapeCast S2x6 main_v0 shapeCasts_S2x6x1_S2x6
  let main_v2 : IVec S2x6x1 32 := (extractStridedSlice S2x6x1 ![0, 0, 1] · slices_S2x6x2_S2x6x1_0_0_1) main_arg3
  let main_v3 : IVec S2x6 32 := shapeCast S2x6 main_v2 shapeCasts_S2x6x1_S2x6
  let main_c : IVec S_ 32 := constantI S_ 32 160#32
  let main_v4 : IVec S2x6 32 := broadcastInDim S2x6 ![] bcast_S_S2x6 main_c
  let main_v5 : IVec S2x6 1 := cmpi .sge main_v1 main_v4
  let main_c_0 : IVec S_ 32 := constantI S_ 32 1120#32
  let main_v6 : IVec S2x6 32 := broadcastInDim S2x6 ![] bcast_S_S2x6 main_c_0
  let main_v7 : IVec S2x6 1 := cmpi .slt main_v1 main_v6
  let main_v8 : IVec S2x6 1 := andi main_v5 main_v7
  let main_c_1 : IVec S_ 32 := constantI S_ 32 160#32
  let main_v9 : IVec S2x6 32 := broadcastInDim S2x6 ![] bcast_S_S2x6 main_c_1
  let main_v10 : IVec S2x6 1 := cmpi .sge main_v3 main_v9
  let main_v11 : IVec S2x6 1 := andi main_v8 main_v10
  let main_c_2 : IVec S_ 32 := constantI S_ 32 864#32
  let main_v12 : IVec S2x6 32 := broadcastInDim S2x6 ![] bcast_S_S2x6 main_c_2
  let main_v13 : IVec S2x6 1 := cmpi .slt main_v3 main_v12
  let main_v14 : IVec S2x6 1 := andi main_v11 main_v13
  let main_cst : FVec F S_ .f32 := constant S_ .f32 0xFF800000#32
  let main_v15 : FVec F S2x23x50x50x50 .f32 := broadcastInDim S2x23x50x50x50 ![] bcast_S_S2x23x50x50x50 main_cst
  let main_v16 : IVec S2x23x50x50x50 1 := cmpf .ogt main_arg1 main_v15
  let main_c_3 : IVec S_ 1 := constantI S_ 1 0#1
  let main_v17 : IVec S2x23 1 := (fun x v => Host.reduce IntOp.ori x v reducesTo_S2x23x50x50x50_S2x23_d2_3_4 h_S_) main_v16 main_c_3
  fn_part1 (F := F) main_v14 main_v17
-- ==== Kernel.lean ====
abbrev S2x6x23x160x160 : Shape := ⟨5, ![2, 6, 23, 160, 160]⟩
abbrev S2x23x50x50x50 : Shape := ⟨5, ![2, 23, 50, 50, 50]⟩
abbrev S2x1x3 : Shape := ⟨3, ![2, 1, 3]⟩
abbrev S2x6x2 : Shape := ⟨3, ![2, 6, 2]⟩
abbrev S276x160x160 : Shape := ⟨3, ![276, 160, 160]⟩
abbrev S2x6x1 : Shape := ⟨3, ![2, 6, 1]⟩
abbrev S2x6 : Shape := ⟨2, ![2, 6]⟩
abbrev S_ : Shape := ⟨0, ![]⟩
abbrev S12 : Shape := ⟨1, ![12]⟩
abbrev S12x23 : Shape := ⟨2, ![12, 23]⟩
abbrev S276 : Shape := ⟨1, ![276]⟩
abbrev S46x50x50x50 : Shape := ⟨4, ![46, 50, 50, 50]⟩
abbrev S46x8x128 : Shape := ⟨3, ![46, 8, 128]⟩
abbrev S2x50x50x50 : Shape := ⟨4, ![2, 50, 50, 50]⟩
abbrev S2x8x128 : Shape := ⟨3, ![2, 8, 128]⟩
abbrev S8x128 : Shape := ⟨2, ![8, 128]⟩
abbrev S1x50 : Shape := ⟨2, ![1, 50]⟩
abbrev S50 : Shape := ⟨1, ![50]⟩
abbrev S1x50x50x50 : Shape := ⟨4, ![1, 50, 50, 50]⟩
abbrev S50x50x50 : Shape := ⟨3, ![50, 50, 50]⟩
abbrev S50x50 : Shape := ⟨2, ![50, 50]⟩
abbrev S1 : Shape := ⟨1, ![1]⟩
abbrev S1x1 : Shape := ⟨2, ![1, 1]⟩
abbrev S1x8x128 : Shape := ⟨3, ![1, 8, 128]⟩
abbrev S276x512x640 : Shape := ⟨3, ![276, 512, 640]⟩
abbrev S6x160x160 : Shape := ⟨3, ![6, 160, 160]⟩
abbrev S6x512x640 : Shape := ⟨3, ![6, 512, 640]⟩
abbrev S168x640 : Shape := ⟨2, ![168, 640]⟩
abbrev S1x160x160 : Shape := ⟨3, ![1, 160, 160]⟩
abbrev S160x160 : Shape := ⟨2, ![160, 160]⟩
abbrev S512x640 : Shape := ⟨2, ![512, 640]⟩
abbrev S1x512x640 : Shape := ⟨3, ![1, 512, 640]⟩
abbrev S1x168x640 : Shape := ⟨3, ![1, 168, 640]⟩
abbrev S2x6x23x512x640 : Shape := ⟨5, ![2, 6, 23, 512, 640]⟩
abbrev S46x1x3 : Shape := ⟨3, ![46, 1, 3]⟩
abbrev S46x3 : Shape := ⟨2, ![46, 3]⟩
abbrev S2x23x3 : Shape := ⟨3, ![2, 23, 3]⟩

abbrev nBuf : Space → Nat
  | .hbm => 72
  | .vmem => 11
  | .smem => 2
  | _ => 0

abbrev bufTy : (tb : Table) → Fin (tcTables nBuf tb) → BufTy
  | .hbm, ⟨0, _⟩ => ⟨S2x6x23x160x160, .f32⟩
  | .hbm, ⟨1, _⟩ => ⟨S2x23x50x50x50, .f32⟩
  | .hbm, ⟨2, _⟩ => ⟨S2x1x3, .f32⟩
  | .hbm, ⟨3, _⟩ => ⟨S2x6x2, .i32⟩
  | .hbm, ⟨4, _⟩ => ⟨S276x160x160, .f32⟩
  | .hbm, ⟨5, _⟩ => ⟨S2x6x1, .i32⟩
  | .hbm, ⟨6, _⟩ => ⟨S2x6, .i32⟩
  | .hbm, ⟨7, _⟩ => ⟨S_, .i32⟩
  | .hbm, ⟨8, _⟩ => ⟨S_, .i32⟩
  | .hbm, ⟨9, _⟩ => ⟨S2x6, .i32⟩
  | .hbm, ⟨10, _⟩ => ⟨S2x6, .i32⟩
  | .hbm, ⟨11, _⟩ => ⟨S2x6, .i32⟩
  | .hbm, ⟨12, _⟩ => ⟨S_, .i32⟩
  | .hbm, ⟨13, _⟩ => ⟨S2x6, .i32⟩
  | .hbm, ⟨14, _⟩ => ⟨S2x6, .i1⟩
  | .hbm, ⟨15, _⟩ => ⟨S2x6, .i32⟩
  | .hbm, ⟨16, _⟩ => ⟨S2x6, .i32⟩
  | .hbm, ⟨17, _⟩ => ⟨S_, .i32⟩
  | .hbm, ⟨18, _⟩ => ⟨S2x6, .i32⟩
  | .hbm, ⟨19, _⟩ => ⟨S2x6, .i1⟩
  | .hbm, ⟨20, _⟩ => ⟨S2x6, .i1⟩
  | .hbm, ⟨21, _⟩ => ⟨S_, .i32⟩
  | .hbm, ⟨22, _⟩ => ⟨S2x6, .i32⟩
  | .hbm, ⟨23, _⟩ => ⟨S2x6, .i32⟩
  | .hbm, ⟨24, _⟩ => ⟨S2x6, .i32⟩
  | .hbm, ⟨25, _⟩ => ⟨S_, .i32⟩
  | .hbm, ⟨26, _⟩ => ⟨S2x6, .i32⟩
  | .hbm, ⟨27, _⟩ => ⟨S2x6, .i32⟩
  | .hbm, ⟨28, _⟩ => ⟨S12, .i32⟩
  | .hbm, ⟨29, _⟩ => ⟨S2x6x1, .i32⟩
  | .hbm, ⟨30, _⟩ => ⟨S2x6, .i32⟩
  | .hbm, ⟨31, _⟩ => ⟨S_, .i32⟩
  | .hbm, ⟨32, _⟩ => ⟨S_, .i32⟩
  | .hbm, ⟨33, _⟩ => ⟨S2x6, .i32⟩
  | .hbm, ⟨34, _⟩ => ⟨S2x6, .i32⟩
  | .hbm, ⟨35, _⟩ => ⟨S2x6, .i32⟩
  | .hbm, ⟨36, _⟩ => ⟨S_, .i32⟩
  | .hbm, ⟨37, _⟩ => ⟨S2x6, .i32⟩
  | .hbm, ⟨38, _⟩ => ⟨S2x6, .i1⟩
  | .hbm, ⟨39, _⟩ => ⟨S2x6, .i32⟩
  | .hbm, ⟨40, _⟩ => ⟨S2x6, .i32⟩
  | .hbm, ⟨41, _⟩ => ⟨S_, .i32⟩
  | .hbm, ⟨42, _⟩ => ⟨S2x6, .i32⟩
  | .hbm, ⟨43, _⟩ => ⟨S2x6, .i1⟩
  | .hbm, ⟨44, _⟩ => ⟨S2x6, .i1⟩
  | .hbm, ⟨45, _⟩ => ⟨S_, .i32⟩
  | .hbm, ⟨46, _⟩ => ⟨S2x6, .i32⟩
  | .hbm, ⟨47, _⟩ => ⟨S2x6, .i32⟩
  | .hbm, ⟨48, _⟩ => ⟨S2x6, .i32⟩
  | .hbm, ⟨49, _⟩ => ⟨S_, .i32⟩
  | .hbm, ⟨50, _⟩ => ⟨S2x6, .i32⟩
  | .hbm, ⟨51, _⟩ => ⟨S2x6, .i32⟩
  | .hbm, ⟨52, _⟩ => ⟨S12, .i32⟩
  | .hbm, ⟨53, _⟩ => ⟨S12x23, .i32⟩
  | .hbm, ⟨54, _⟩ => ⟨S12x23, .i32⟩
  | .hbm, ⟨55, _⟩ => ⟨S46x50x50x50, .f32⟩
  | .hbm, ⟨56, _⟩ => ⟨S46x50x50x50, .f32⟩
  | .hbm, ⟨57, _⟩ => ⟨S46x8x128, .f32⟩
  | .hbm, ⟨58, _⟩ => ⟨S276x512x640, .f32⟩
  | .hbm, ⟨59, _⟩ => ⟨S2x6x23x512x640, .f32⟩
  | .hbm, ⟨60, _⟩ => ⟨S2x23x50x50x50, .f32⟩
  | .hbm, ⟨61, _⟩ => ⟨S46x1x3, .f32⟩
  | .hbm, ⟨62, _⟩ => ⟨S46x3, .f32⟩
  | .hbm, ⟨63, _⟩ => ⟨S2x23x3, .f32⟩
  | .hbm, ⟨64, _⟩ => ⟨S_, .f32⟩
  | .hbm, ⟨65, _⟩ => ⟨S2x23x3, .f32⟩
  | .hbm, ⟨66, _⟩ => ⟨S2x23x3, .f32⟩
  | .hbm, ⟨67, _⟩ => ⟨S_, .f32⟩
  | .hbm, ⟨68, _⟩ => ⟨S2x23x3, .f32⟩
  | .hbm, ⟨69, _⟩ => ⟨S2x23x3, .f32⟩
  | .hbm, ⟨70, _⟩ => ⟨S2x23x3, .f32⟩
  | .hbm, ⟨71, _⟩ => ⟨S2x23x3, .f32⟩
  | .local _ .vmem, ⟨0, _⟩ => ⟨S2x50x50x50, .f32⟩
  | .local _ .vmem, ⟨1, _⟩ => ⟨S2x50x50x50, .f32⟩
  | .local _ .vmem, ⟨2, _⟩ => ⟨S2x50x50x50, .f32⟩
  | .local _ .vmem, ⟨3, _⟩ => ⟨S2x50x50x50, .f32⟩
  | .local _ .vmem, ⟨4, _⟩ => ⟨S2x8x128, .f32⟩
  | .local _ .vmem, ⟨5, _⟩ => ⟨S2x8x128, .f32⟩
  | .local _ .vmem, ⟨6, _⟩ => ⟨S6x160x160, .f32⟩
  | .local _ .vmem, ⟨7, _⟩ => ⟨S6x160x160, .f32⟩
  | .local _ .vmem, ⟨8, _⟩ => ⟨S6x512x640, .f32⟩
  | .local _ .vmem, ⟨9, _⟩ => ⟨S6x512x640, .f32⟩
  | .local _ .vmem, ⟨10, _⟩ => ⟨S168x640, .f32⟩
  | .local _ .smem, ⟨0, _⟩ => ⟨S276, .i32⟩
  | .local _ .smem, ⟨1, _⟩ => ⟨S276, .i32⟩
  | _, _ => ⟨S2x6x23x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_c_2 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v15 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst : Ref sig .tc := ⟨.hbm, 64, rfl⟩
abbrev main_v25 : Ref sig .tc := ⟨.hbm, 65, rfl⟩
abbrev main_v26 : Ref sig .tc := ⟨.hbm, 66, rfl⟩
abbrev main_cst_3 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v14 : Ref sig .tc := ⟨.smem, 0, rfl⟩
abbrev main_v16 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![23], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x50x50x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x50x50x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![46], ![false]⟩

abbrev pre1 : Pipeline.Prefetch sig := ⟨2, ![main_v14.idx, main_v16.idx], fun | 0 => main_v14.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c6_i32 : BitVec 32 := 6#32
  let v3 : BitVec 32 := Scalar.muli arg0 c6_i32
  let c0_i32_1 : BitVec 32 := 0#32
  let v4 : BitVec 32 := Scalar.addi v3 c0_i32_1
  let v5 : Index := Scalar.indexCast v4
  ![v5.toNat]
def k1_mult1 (v8 : BitVec 32) : BitVec 32 :=
  let c3_i32 : BitVec 32 := 3#32
  let v18 : BitVec 32 := Scalar.shrsi v8 c3_i32
  let c3_i32_8 : BitVec 32 := 3#32
  let v19 : BitVec 32 := Scalar.shli v18 c3_i32_8
  v19

def k1_off2 (v8 : BitVec 32) : Fin 3 → Nat :=
  let c0_12 : Index := 0#32
  let c3_i32 : BitVec 32 := 3#32
  let v18 : BitVec 32 := Scalar.shrsi v8 c3_i32
  let c3_i32_8 : BitVec 32 := 3#32
  let v19 : BitVec 32 := Scalar.shli v18 c3_i32_8
  let v20 : BitVec 32 := v19
  let v25 : Index := Scalar.indexCast v20
  let c0_13 : Index := 0#32
  ![0, v25.toNat, 0]

def k1_chk1 (v8 : BitVec 32) : Prop :=
  (8 ∣ (k1_mult1 v8).toNat) ∧
  (∀ a, (k1_off2 v8) a + S1x168x640.size a ≤ S6x512x640.size a)
theorem k1_mult1_dvd : ∀ (v8 : BitVec 32) (k1_hw1 : k1_chk1 v8), 8 ∣ (k1_mult1 v8).toNat := fun v8 k1_hw1 => k1_hw1.1
theorem k1_off2_inb : ∀ (v8 : BitVec 32) (k1_hw1 : k1_chk1 v8), ∀ a, (k1_off2 v8) a + S1x168x640.size a ≤ S6x512x640.size a := fun v8 k1_hw1 => k1_hw1.2

def k1_off3 (i : grid1.Coords) : Fin 1 → Nat :=
  let arg0 : BitVec 32 := BitVec.ofNat 32 (i 0).val
  let c6_i32_14 : BitVec 32 := 6#32
  let v29 : BitVec 32 := Scalar.muli arg0 c6_i32_14
  let c1_i32 : BitVec 32 := 1#32
  let v30 : BitVec 32 := Scalar.addi v29 c1_i32
  let v31 : Index := Scalar.indexCast v30
  ![v31.toNat]
def k1_mult2 (v34 : BitVec 32) : BitVec 32 :=
  let c3_i32_22 : BitVec 32 := 3#32
  let v44 : BitVec 32 := Scalar.shrsi v34 c3_i32_22
  let c3_i32_23 : BitVec 32 := 3#32
  let v45 : BitVec 32 := Scalar.shli v44 c3_i32_23
  v45

def k1_off4 (v34 : BitVec 32) : Fin 3 → Nat :=
  let c1_28 : Index := 1#32
  let c3_i32_22 : BitVec 32 := 3#32
  let v44 : BitVec 32 := Scalar.shrsi v34 c3_i32_22
  let c3_i32_23 : BitVec 32 := 3#32
  let v45 : BitVec 32 := Scalar.shli v44 c3_i32_23
  let v46 : BitVec 32 := v45
  let v51 : Index := Scalar.indexCast v46
  let c0_29 : Index := 0#32
  ![1, v51.toNat, 0]

def k1_chk2 (v34 : BitVec 32) : Prop :=
  (8 ∣ (k1_mult2 v34).toNat) ∧
  (∀ a, (k1_off4 v34) a + S1x168x640.size a ≤ S6x512x640.size a)
theorem k1_mult2_dvd : ∀ (v34 : BitVec 32) (k1_hw2 : k1_chk2 v34), 8 ∣ (k1_mult2 v34).toNat := fun v34 k1_hw2 => k1_hw2.1
theorem k1_off4_inb : ∀ (v34 : BitVec 32) (k1_hw2 : k1_chk2 v34), ∀ a, (k1_off4 v34) a + S1x168x640.size a ≤ S6x512x640.size a := fun v34 k1_hw2 => k1_hw2.2

def k1_off5 (i : grid1.Coords) : Fin 1 → Nat :=
  let arg0 : BitVec 32 := BitVec.ofNat 32 (i 0).val
  let c6_i32_30 : BitVec 32 := 6#32
  let v55 : BitVec 32 := Scalar.muli arg0 c6_i32_30
  let c2_i32 : BitVec 32 := 2#32
  let v56 : BitVec 32 := Scalar.addi v55 c2_i32
  let v57 : Index := Scalar.indexCast v56
  ![v57.toNat]
def k1_mult3 (v60 : BitVec 32) : BitVec 32 :=
  let c3_i32_38 : BitVec 32 := 3#32
  let v70 : BitVec 32 := Scalar.shrsi v60 c3_i32_38
  let c3_i32_39 : BitVec 32 := 3#32
  let v71 : BitVec 32 := Scalar.shli v70 c3_i32_39
  v71

def k1_off6 (v60 : BitVec 32) : Fin 3 → Nat :=
  let c2_44 : Index := 2#32
  let c3_i32_38 : BitVec 32 := 3#32
  let v70 : BitVec 32 := Scalar.shrsi v60 c3_i32_38
  let c3_i32_39 : BitVec 32 := 3#32
  let v71 : BitVec 32 := Scalar.shli v70 c3_i32_39
  let v72 : BitVec 32 := v71
  let v77 : Index := Scalar.indexCast v72
  let c0_45 : Index := 0#32
  ![2, v77.toNat, 0]

def k1_chk3 (v60 : BitVec 32) : Prop :=
  (8 ∣ (k1_mult3 v60).toNat) ∧
  (∀ a, (k1_off6 v60) a + S1x168x640.size a ≤ S6x512x640.size a)
theorem k1_mult3_dvd : ∀ (v60 : BitVec 32) (k1_hw3 : k1_chk3 v60), 8 ∣ (k1_mult3 v60).toNat := fun v60 k1_hw3 => k1_hw3.1
theorem k1_off6_inb : ∀ (v60 : BitVec 32) (k1_hw3 : k1_chk3 v60), ∀ a, (k1_off6 v60) a + S1x168x640.size a ≤ S6x512x640.size a := fun v60 k1_hw3 => k1_hw3.2

def k1_off7 (i : grid1.Coords) : Fin 1 → Nat :=
  let arg0 : BitVec 32 := BitVec.ofNat 32 (i 0).val
  let c6_i32_46 : BitVec 32 := 6#32
  let v81 : BitVec 32 := Scalar.muli arg0 c6_i32_46
  let c3_i32_47 : BitVec 32 := 3#32
  let v82 : BitVec 32 := Scalar.addi v81 c3_i32_47
  let v83 : Index := Scalar.indexCast v82
  ![v83.toNat]
def k1_mult4 (v86 : BitVec 32) : BitVec 32 :=
  let c3_i32_55 : BitVec 32 := 3#32
  let v96 : BitVec 32 := Scalar.shrsi v86 c3_i32_55
  let c3_i32_56 : BitVec 32 := 3#32
  let v97 : BitVec 32 := Scalar.shli v96 c3_i32_56
  v97

def k1_off8 (v86 : BitVec 32) : Fin 3 → Nat :=
  let c3_61 : Index := 3#32
  let c3_i32_55 : BitVec 32 := 3#32
  let v96 : BitVec 32 := Scalar.shrsi v86 c3_i32_55
  let c3_i32_56 : BitVec 32 := 3#32
  let v97 : BitVec 32 := Scalar.shli v96 c3_i32_56
  let v98 : BitVec 32 := v97
  let v103 : Index := Scalar.indexCast v98
  let c0_62 : Index := 0#32
  ![3, v103.toNat, 0]

def k1_chk4 (v86 : BitVec 32) : Prop :=
  (8 ∣ (k1_mult4 v86).toNat) ∧
  (∀ a, (k1_off8 v86) a + S1x168x640.size a ≤ S6x512x640.size a)
theorem k1_mult4_dvd : ∀ (v86 : BitVec 32) (k1_hw4 : k1_chk4 v86), 8 ∣ (k1_mult4 v86).toNat := fun v86 k1_hw4 => k1_hw4.1
theorem k1_off8_inb : ∀ (v86 : BitVec 32) (k1_hw4 : k1_chk4 v86), ∀ a, (k1_off8 v86) a + S1x168x640.size a ≤ S6x512x640.size a := fun v86 k1_hw4 => k1_hw4.2

def k1_off9 (i : grid1.Coords) : Fin 1 → Nat :=
  let arg0 : BitVec 32 := BitVec.ofNat 32 (i 0).val
  let c6_i32_63 : BitVec 32 := 6#32
  let v107 : BitVec 32 := Scalar.muli arg0 c6_i32_63
  let c4_i32 : BitVec 32 := 4#32
  let v108 : BitVec 32 := Scalar.addi v107 c4_i32
  let v109 : Index := Scalar.indexCast v108
  ![v109.toNat]
def k1_mult5 (v112 : BitVec 32) : BitVec 32 :=
  let c3_i32_71 : BitVec 32 := 3#32
  let v122 : BitVec 32 := Scalar.shrsi v112 c3_i32_71
  let c3_i32_72 : BitVec 32 := 3#32
  let v123 : BitVec 32 := Scalar.shli v122 c3_i32_72
  v123

def k1_off10 (v112 : BitVec 32) : Fin 3 → Nat :=
  let c4_77 : Index := 4#32
  let c3_i32_71 : BitVec 32 := 3#32
  let v122 : BitVec 32 := Scalar.shrsi v112 c3_i32_71
  let c3_i32_72 : BitVec 32 := 3#32
  let v123 : BitVec 32 := Scalar.shli v122 c3_i32_72
  let v124 : BitVec 32 := v123
  let v129 : Index := Scalar.indexCast v124
  let c0_78 : Index := 0#32
  ![4, v129.toNat, 0]

def k1_chk5 (v112 : BitVec 32) : Prop :=
  (8 ∣ (k1_mult5 v112).toNat) ∧
  (∀ a, (k1_off10 v112) a + S1x168x640.size a ≤ S6x512x640.size a)
theorem k1_mult5_dvd : ∀ (v112 : BitVec 32) (k1_hw5 : k1_chk5 v112), 8 ∣ (k1_mult5 v112).toNat := fun v112 k1_hw5 => k1_hw5.1
theorem k1_off10_inb : ∀ (v112 : BitVec 32) (k1_hw5 : k1_chk5 v112), ∀ a, (k1_off10 v112) a + S1x168x640.size a ≤ S6x512x640.size a := fun v112 k1_hw5 => k1_hw5.2

def k1_off11 (i : grid1.Coords) : Fin 1 → Nat :=
  let arg0 : BitVec 32 := BitVec.ofNat 32 (i 0).val
  let c6_i32_79 : BitVec 32 := 6#32
  let v133 : BitVec 32 := Scalar.muli arg0 c6_i32_79
  let c5_i32 : BitVec 32 := 5#32
  let v134 : BitVec 32 := Scalar.addi v133 c5_i32
  let v135 : Index := Scalar.indexCast v134
  ![v135.toNat]
def k1_mult6 (v138 : BitVec 32) : BitVec 32 :=
  let c3_i32_87 : BitVec 32 := 3#32
  let v148 : BitVec 32 := Scalar.shrsi v138 c3_i32_87
  let c3_i32_88 : BitVec 32 := 3#32
  let v149 : BitVec 32 := Scalar.shli v148 c3_i32_88
  v149

def k1_off12 (v138 : BitVec 32) : Fin 3 → Nat :=
  let c5_93 : Index := 5#32
  let c3_i32_87 : BitVec 32 := 3#32
  let v148 : BitVec 32 := Scalar.shrsi v138 c3_i32_87
  let c3_i32_88 : BitVec 32 := 3#32
  let v149 : BitVec 32 := Scalar.shli v148 c3_i32_88
  let v150 : BitVec 32 := v149
  let v155 : Index := Scalar.indexCast v150
  let c0_94 : Index := 0#32
  ![5, v155.toNat, 0]

def k1_chk6 (v138 : BitVec 32) : Prop :=
  (8 ∣ (k1_mult6 v138).toNat) ∧
  (∀ a, (k1_off12 v138) a + S1x168x640.size a ≤ S6x512x640.size a)
theorem k1_mult6_dvd : ∀ (v138 : BitVec 32) (k1_hw6 : k1_chk6 v138), 8 ∣ (k1_mult6 v138).toNat := fun v138 k1_hw6 => k1_hw6.1
theorem k1_off12_inb : ∀ (v138 : BitVec 32) (k1_hw6 : k1_chk6 v138), ∀ a, (k1_off12 v138) a + S1x168x640.size a ≤ S6x512x640.size a := fun v138 k1_hw6 => k1_hw6.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6x160x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x512x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S2x6x23x160x160 : Shape := ⟨5, ![2, 6, 23, 160, 160]⟩
abbrev S2x23x50x50x50 : Shape := ⟨5, ![2, 23, 50, 50, 50]⟩
abbrev S2x1x3 : Shape := ⟨3, ![2, 1, 3]⟩
abbrev S2x6x2 : Shape := ⟨3, ![2, 6, 2]⟩
abbrev S_ : Shape := ⟨0, ![]⟩
abbrev S1x1x23x160x160 : Shape := ⟨5, ![1, 1, 23, 160, 160]⟩
abbrev S23x160x160 : Shape := ⟨3, ![23, 160, 160]⟩
abbrev S1x1x2 : Shape := ⟨3, ![1, 1, 2]⟩
abbrev S2 : Shape := ⟨1, ![2]⟩
abbrev S23x512x640 : Shape := ⟨3, ![23, 512, 640]⟩
abbrev S1 : Shape := ⟨1, ![1]⟩
abbrev S1x23x512x640 : Shape := ⟨4, ![1, 23, 512, 640]⟩
abbrev S6x23x512x640 : Shape := ⟨4, ![6, 23, 512, 640]⟩
abbrev S1x6x23x512x640 : Shape := ⟨5, ![1, 6, 23, 512, 640]⟩
abbrev S2x6x23x512x640 : Shape := ⟨5, ![2, 6, 23, 512, 640]⟩
abbrev S2x23 : Shape := ⟨2, ![2, 23]⟩
abbrev S50 : Shape := ⟨1, ![50]⟩
abbrev S2x23x50 : Shape := ⟨3, ![2, 23, 50]⟩
abbrev S1x1x50 : Shape := ⟨3, ![1, 1, 50]⟩
abbrev S2x23x1 : Shape := ⟨3, ![2, 23, 1]⟩
abbrev S2x23x3 : Shape := ⟨3, ![2, 23, 3]⟩

abbrev nBuf : Space → Nat
  | .hbm => 446
  | .vmem => 0
  | .smem => 0
  | _ => 0

abbrev hbmTy0_0 (i : Nat) : BufTy := match i % 128 with
  | 0 => ⟨S2x6x23x160x160, .f32⟩
  | 1 => ⟨S2x23x50x50x50, .f32⟩
  | 2 => ⟨S2x1x3, .f32⟩
  | 3 => ⟨S2x6x2, .i32⟩
  | 4 => ⟨S_, .i32⟩
  | 5 => ⟨S_, .i32⟩
  | 6 => ⟨S2x6x2, .i32⟩
  | 7 => ⟨S2x6x2, .i32⟩
  | 8 => ⟨S2x6x2, .i32⟩
  | 9 => ⟨S_, .i32⟩
  | 10 => ⟨S2x6x2, .i32⟩
  | 11 => ⟨S2x6x2, .i1⟩
  | 12 => ⟨S2x6x2, .i32⟩
  | 13 => ⟨S2x6x2, .i32⟩
  | 14 => ⟨S_, .i32⟩
  | 15 => ⟨S2x6x2, .i32⟩
  | 16 => ⟨S2x6x2, .i1⟩
  | 17 => ⟨S2x6x2, .i1⟩
  | 18 => ⟨S_, .i32⟩
  | 19 => ⟨S2x6x2, .i32⟩
  | 20 => ⟨S2x6x2, .i32⟩
  | 21 => ⟨S2x6x2, .i32⟩
  | 22 => ⟨S_, .i32⟩
  | 23 => ⟨S2x6x2, .i32⟩
  | 24 => ⟨S2x6x2, .i32⟩
  | 25 => ⟨S1x1x23x160x160, .f32⟩
  | 26 => ⟨S23x160x160, .f32⟩
  | 27 => ⟨S1x1x2, .i32⟩
  | 28 => ⟨S2, .i32⟩
  | 29 => ⟨S_, .f32⟩
  | 30 => ⟨S23x512x640, .f32⟩
  | 31 => ⟨S1, .i32⟩
  | 32 => ⟨S_, .i32⟩
  | 33 => ⟨S1, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S23x512x640, .f32⟩
  | 54 => ⟨S1x1x23x160x160, .f32⟩
  | 55 => ⟨S23x160x160, .f32⟩
  | 56 => ⟨S1x1x2, .i32⟩
  | 57 => ⟨S2, .i32⟩
  | 58 => ⟨S_, .f32⟩
  | 59 => ⟨S23x512x640, .f32⟩
  | 60 => ⟨S1, .i32⟩
  | 61 => ⟨S_, .i32⟩
  | 62 => ⟨S1, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S23x512x640, .f32⟩
  | 83 => ⟨S1x1x23x160x160, .f32⟩
  | 84 => ⟨S23x160x160, .f32⟩
  | 85 => ⟨S1x1x2, .i32⟩
  | 86 => ⟨S2, .i32⟩
  | 87 => ⟨S_, .f32⟩
  | 88 => ⟨S23x512x640, .f32⟩
  | 89 => ⟨S1, .i32⟩
  | 90 => ⟨S_, .i32⟩
  | 91 => ⟨S1, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S23x512x640, .f32⟩
  | 112 => ⟨S1x1x23x160x160, .f32⟩
  | 113 => ⟨S23x160x160, .f32⟩
  | 114 => ⟨S1x1x2, .i32⟩
  | 115 => ⟨S2, .i32⟩
  | 116 => ⟨S_, .f32⟩
  | 117 => ⟨S23x512x640, .f32⟩
  | 118 => ⟨S1, .i32⟩
  | 119 => ⟨S_, .i32⟩
  | 120 => ⟨S1, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S2x6x23x160x160, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S23x512x640, .f32⟩
  | 13 => ⟨S1x1x23x160x160, .f32⟩
  | 14 => ⟨S23x160x160, .f32⟩
  | 15 => ⟨S1x1x2, .i32⟩
  | 16 => ⟨S2, .i32⟩
  | 17 => ⟨S_, .f32⟩
  | 18 => ⟨S23x512x640, .f32⟩
  | 19 => ⟨S1, .i32⟩
  | 20 => ⟨S_, .i32⟩
  | 21 => ⟨S1, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S23x512x640, .f32⟩
  | 42 => ⟨S1x1x23x160x160, .f32⟩
  | 43 => ⟨S23x160x160, .f32⟩
  | 44 => ⟨S1x1x2, .i32⟩
  | 45 => ⟨S2, .i32⟩
  | 46 => ⟨S_, .f32⟩
  | 47 => ⟨S23x512x640, .f32⟩
  | 48 => ⟨S1, .i32⟩
  | 49 => ⟨S_, .i32⟩
  | 50 => ⟨S1, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S23x512x640, .f32⟩
  | 71 => ⟨S1x23x512x640, .f32⟩
  | 72 => ⟨S1x23x512x640, .f32⟩
  | 73 => ⟨S1x23x512x640, .f32⟩
  | 74 => ⟨S1x23x512x640, .f32⟩
  | 75 => ⟨S1x23x512x640, .f32⟩
  | 76 => ⟨S1x23x512x640, .f32⟩
  | 77 => ⟨S6x23x512x640, .f32⟩
  | 78 => ⟨S1x1x23x160x160, .f32⟩
  | 79 => ⟨S23x160x160, .f32⟩
  | 80 => ⟨S1x1x2, .i32⟩
  | 81 => ⟨S2, .i32⟩
  | 82 => ⟨S_, .f32⟩
  | 83 => ⟨S23x512x640, .f32⟩
  | 84 => ⟨S1, .i32⟩
  | 85 => ⟨S_, .i32⟩
  | 86 => ⟨S1, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S23x512x640, .f32⟩
  | 107 => ⟨S1x1x23x160x160, .f32⟩
  | 108 => ⟨S23x160x160, .f32⟩
  | 109 => ⟨S1x1x2, .i32⟩
  | 110 => ⟨S2, .i32⟩
  | 111 => ⟨S_, .f32⟩
  | 112 => ⟨S23x512x640, .f32⟩
  | 113 => ⟨S1, .i32⟩
  | 114 => ⟨S_, .i32⟩
  | 115 => ⟨S1, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S2x6x23x160x160, .f32⟩

abbrev hbmTy0_2 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S23x512x640, .f32⟩
  | 8 => ⟨S1x1x23x160x160, .f32⟩
  | 9 => ⟨S23x160x160, .f32⟩
  | 10 => ⟨S1x1x2, .i32⟩
  | 11 => ⟨S2, .i32⟩
  | 12 => ⟨S_, .f32⟩
  | 13 => ⟨S23x512x640, .f32⟩
  | 14 => ⟨S1, .i32⟩
  | 15 => ⟨S_, .i32⟩
  | 16 => ⟨S1, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S23x512x640, .f32⟩
  | 37 => ⟨S1x1x23x160x160, .f32⟩
  | 38 => ⟨S23x160x160, .f32⟩
  | 39 => ⟨S1x1x2, .i32⟩
  | 40 => ⟨S2, .i32⟩
  | 41 => ⟨S_, .f32⟩
  | 42 => ⟨S23x512x640, .f32⟩
  | 43 => ⟨S1, .i32⟩
  | 44 => ⟨S_, .i32⟩
  | 45 => ⟨S1, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S23x512x640, .f32⟩
  | 66 => ⟨S1x1x23x160x160, .f32⟩
  | 67 => ⟨S23x160x160, .f32⟩
  | 68 => ⟨S1x1x2, .i32⟩
  | 69 => ⟨S2, .i32⟩
  | 70 => ⟨S_, .f32⟩
  | 71 => ⟨S23x512x640, .f32⟩
  | 72 => ⟨S1, .i32⟩
  | 73 => ⟨S_, .i32⟩
  | 74 => ⟨S1, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S23x512x640, .f32⟩
  | 95 => ⟨S1x1x23x160x160, .f32⟩
  | 96 => ⟨S23x160x160, .f32⟩
  | 97 => ⟨S1x1x2, .i32⟩
  | 98 => ⟨S2, .i32⟩
  | 99 => ⟨S_, .f32⟩
  | 100 => ⟨S23x512x640, .f32⟩
  | 101 => ⟨S1, .i32⟩
  | 102 => ⟨S_, .i32⟩
  | 103 => ⟨S1, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S23x512x640, .f32⟩
  | 124 => ⟨S1x23x512x640, .f32⟩
  | 125 => ⟨S1x23x512x640, .f32⟩
  | 126 => ⟨S1x23x512x640, .f32⟩
  | 127 => ⟨S1x23x512x640, .f32⟩
  | _ => ⟨S2x6x23x160x160, .f32⟩

abbrev hbmTy0_3 (i : Nat) : BufTy := match i % 128 with
  | 0 => ⟨S1x23x512x640, .f32⟩
  | 1 => ⟨S1x23x512x640, .f32⟩
  | 2 => ⟨S6x23x512x640, .f32⟩
  | 3 => ⟨S1x6x23x512x640, .f32⟩
  | 4 => ⟨S1x6x23x512x640, .f32⟩
  | 5 => ⟨S2x6x23x512x640, .f32⟩
  | 6 => ⟨S_, .f32⟩
  | 7 => ⟨S2x23x50x50x50, .f32⟩
  | 8 => ⟨S2x23x50x50x50, .f32⟩
  | 9 => ⟨S2x23x50x50x50, .f32⟩
  | 10 => ⟨S2x23x50x50x50, .f32⟩
  | 11 => ⟨S2x23x50x50x50, .i1⟩
  | 12 => ⟨S2x23x50x50x50, .f32⟩
  | 13 => ⟨S2x23x50x50x50, .f32⟩
  | 14 => ⟨S2x23x50x50x50, .f32⟩
  | 15 => ⟨S2x23x50x50x50, .f32⟩
  | 16 => ⟨S2x23x50x50x50, .f32⟩
  | 17 => ⟨S2x23x50x50x50, .f32⟩
  | 18 => ⟨S2x23x50x50x50, .f32⟩
  | 19 => ⟨S2x23x50x50x50, .f32⟩
  | 20 => ⟨S_, .f32⟩
  | 21 => ⟨S2x23, .f32⟩
  | 22 => ⟨S50, .f32⟩
  | 23 => ⟨S_, .f32⟩
  | 24 => ⟨S2x23x50, .f32⟩
  | 25 => ⟨S_, .f32⟩
  | 26 => ⟨S2x23x50, .f32⟩
  | 27 => ⟨S_, .f32⟩
  | 28 => ⟨S2x23x50, .f32⟩
  | 29 => ⟨S1x1x50, .f32⟩
  | 30 => ⟨S2x23x50, .f32⟩
  | 31 => ⟨S2x23x50, .f32⟩
  | 32 => ⟨S_, .f32⟩
  | 33 => ⟨S2x23, .f32⟩
  | 34 => ⟨S2x23, .f32⟩
  | 35 => ⟨S1x1x50, .f32⟩
  | 36 => ⟨S2x23x50, .f32⟩
  | 37 => ⟨S2x23x50, .f32⟩
  | 38 => ⟨S_, .f32⟩
  | 39 => ⟨S2x23, .f32⟩
  | 40 => ⟨S2x23, .f32⟩
  | 41 => ⟨S1x1x50, .f32⟩
  | 42 => ⟨S2x23x50, .f32⟩
  | 43 => ⟨S2x23x50, .f32⟩
  | 44 => ⟨S_, .f32⟩
  | 45 => ⟨S2x23, .f32⟩
  | 46 => ⟨S2x23, .f32⟩
  | 47 => ⟨S2x23x1, .f32⟩
  | 48 => ⟨S2x23x1, .f32⟩
  | 49 => ⟨S2x23x1, .f32⟩
  | 50 => ⟨S2x23x3, .f32⟩
  | 51 => ⟨S_, .f32⟩
  | 52 => ⟨S2x23x3, .f32⟩
  | 53 => ⟨S2x23x3, .f32⟩
  | 54 => ⟨S_, .f32⟩
  | 55 => ⟨S2x23x3, .f32⟩
  | 56 => ⟨S2x23x3, .f32⟩
  | 57 => ⟨S_, .f32⟩
  | 58 => ⟨S2x23x3, .f32⟩
  | 59 => ⟨S2x23x3, .f32⟩
  | 60 => ⟨S2x23x3, .f32⟩
  | 61 => ⟨S2x23x3, .f32⟩
  | _ => ⟨S2x6x23x160x160, .f32⟩

abbrev hbmTy (i : Nat) : BufTy := match i / 128 with
  | 0 => hbmTy0_0 i
  | 1 => hbmTy0_1 i
  | 2 => hbmTy0_2 i
  | 3 => hbmTy0_3 i
  | _ => ⟨S2x6x23x160x160, .f32⟩

abbrev bufTy : (tb : Table) → Fin (tcTables nBuf tb) → BufTy
  | .hbm, ⟨i, _⟩ => hbmTy i
  | _, _ => ⟨S2x6x23x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_c_2 : Ref sig .tc := ⟨.hbm, 36, rfl⟩
abbrev main_v12 : Ref sig .tc := ⟨.hbm, 37, rfl⟩
abbrev main_c_3 : Ref sig .tc := ⟨.hbm, 38, rfl⟩
abbrev main_c_4 : Ref sig .tc := ⟨.hbm, 39, rfl⟩
abbrev main_v13 : Ref sig .tc := ⟨.hbm, 40, rfl⟩
abbrev main_c_5 : Ref sig .tc := ⟨.hbm, 41, rfl⟩
abbrev main_v14 : Ref sig .tc := ⟨.hbm, 42, rfl⟩
abbrev main_c_6 : Ref sig .tc := ⟨.hbm, 43, rfl⟩
abbrev main_v15 : Ref sig .tc := ⟨.hbm, 44, rfl⟩
abbrev main_c_7 : Ref sig .tc := ⟨.hbm, 45, rfl⟩
abbrev main_v16 : Ref sig .tc := ⟨.hbm, 46, rfl⟩
abbrev main_v17 : Ref sig .tc := ⟨.hbm, 47, rfl⟩
abbrev main_c_8 : Ref sig .tc := ⟨.hbm, 48, rfl⟩
abbrev main_v18 : Ref sig .tc := ⟨.hbm, 49, rfl⟩
abbrev main_c_9 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_10 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_11 : Ref sig .tc := ⟨.hbm, 64, rfl⟩
abbrev main_c_12 : Ref sig .tc := ⟨.hbm, 65, rfl⟩
abbrev main_v31 : Ref sig .tc := ⟨.hbm, 66, rfl⟩
abbrev main_c_13 : Ref sig .tc := ⟨.hbm, 67, rfl⟩
abbrev main_c_14 : Ref sig .tc := ⟨.hbm, 68, rfl⟩
abbrev main_v32 : Ref sig .tc := ⟨.hbm, 69, rfl⟩
abbrev main_c_15 : Ref sig .tc := ⟨.hbm, 70, rfl⟩
abbrev main_v33 : Ref sig .tc := ⟨.hbm, 71, rfl⟩
abbrev main_c_16 : Ref sig .tc := ⟨.hbm, 72, rfl⟩
abbrev main_v34 : Ref sig .tc := ⟨.hbm, 73, rfl⟩
abbrev main_c_17 : Ref sig .tc := ⟨.hbm, 74, rfl⟩
abbrev main_v35 : Ref sig .tc := ⟨.hbm, 75, rfl⟩
abbrev main_v36 : Ref sig .tc := ⟨.hbm, 76, rfl⟩
abbrev main_c_18 : Ref sig .tc := ⟨.hbm, 77, rfl⟩
abbrev main_v37 : Ref sig .tc := ⟨.hbm, 78, rfl⟩
abbrev main_c_19 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_20 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_21 : Ref sig .tc := ⟨.hbm, 93, rfl⟩
abbrev main_c_22 : Ref sig .tc := ⟨.hbm, 94, rfl⟩
abbrev main_v50 : Ref sig .tc := ⟨.hbm, 95, rfl⟩
abbrev main_c_23 : Ref sig .tc := ⟨.hbm, 96, rfl⟩
abbrev main_c_24 : Ref sig .tc := ⟨.hbm, 97, rfl⟩
abbrev main_v51 : Ref sig .tc := ⟨.hbm, 98, rfl⟩
abbrev main_c_25 : Ref sig .tc := ⟨.hbm, 99, rfl⟩
abbrev main_v52 : Ref sig .tc := ⟨.hbm, 100, rfl⟩
abbrev main_c_26 : Ref sig .tc := ⟨.hbm, 101, rfl⟩
abbrev main_v53 : Ref sig .tc := ⟨.hbm, 102, rfl⟩
abbrev main_c_27 : Ref sig .tc := ⟨.hbm, 103, rfl⟩
abbrev main_v54 : Ref sig .tc := ⟨.hbm, 104, rfl⟩
abbrev main_v55 : Ref sig .tc := ⟨.hbm, 105, rfl⟩
abbrev main_c_28 : Ref sig .tc := ⟨.hbm, 106, rfl⟩
abbrev main_v56 : Ref sig .tc := ⟨.hbm, 107, rfl⟩
abbrev main_c_29 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_30 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_31 : Ref sig .tc := ⟨.hbm, 122, rfl⟩
abbrev main_c_32 : Ref sig .tc := ⟨.hbm, 123, rfl⟩
abbrev main_v69 : Ref sig .tc := ⟨.hbm, 124, rfl⟩
abbrev main_c_33 : Ref sig .tc := ⟨.hbm, 125, rfl⟩
abbrev main_c_34 : Ref sig .tc := ⟨.hbm, 126, rfl⟩
abbrev main_v70 : Ref sig .tc := ⟨.hbm, 127, rfl⟩
abbrev main_c_35 : Ref sig .tc := ⟨.hbm, 128, rfl⟩
abbrev main_v71 : Ref sig .tc := ⟨.hbm, 129, rfl⟩
abbrev main_c_36 : Ref sig .tc := ⟨.hbm, 130, rfl⟩
abbrev main_v72 : Ref sig .tc := ⟨.hbm, 131, rfl⟩
abbrev main_c_37 : Ref sig .tc := ⟨.hbm, 132, rfl⟩
abbrev main_v73 : Ref sig .tc := ⟨.hbm, 133, rfl⟩
abbrev main_v74 : Ref sig .tc := ⟨.hbm, 134, rfl⟩
abbrev main_c_38 : Ref sig .tc := ⟨.hbm, 135, rfl⟩
abbrev main_v75 : Ref sig .tc := ⟨.hbm, 136, rfl⟩
abbrev main_c_39 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_40 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_c_41 : Ref sig .tc := ⟨.hbm, 151, rfl⟩
abbrev main_c_42 : Ref sig .tc := ⟨.hbm, 152, rfl⟩
abbrev main_v88 : Ref sig .tc := ⟨.hbm, 153, rfl⟩
abbrev main_c_43 : Ref sig .tc := ⟨.hbm, 154, rfl⟩
abbrev main_c_44 : Ref sig .tc := ⟨.hbm, 155, rfl⟩
abbrev main_v89 : Ref sig .tc := ⟨.hbm, 156, rfl⟩
abbrev main_c_45 : Ref sig .tc := ⟨.hbm, 157, rfl⟩
abbrev main_v90 : Ref sig .tc := ⟨.hbm, 158, rfl⟩
abbrev main_c_46 : Ref sig .tc := ⟨.hbm, 159, rfl⟩
abbrev main_v91 : Ref sig .tc := ⟨.hbm, 160, rfl⟩
abbrev main_c_47 : Ref sig .tc := ⟨.hbm, 161, rfl⟩
abbrev main_v92 : Ref sig .tc := ⟨.hbm, 162, rfl⟩
abbrev main_v93 : Ref sig .tc := ⟨.hbm, 163, rfl⟩
abbrev main_c_48 : Ref sig .tc := ⟨.hbm, 164, rfl⟩
abbrev main_v94 : Ref sig .tc := ⟨.hbm, 165, rfl⟩
abbrev main_c_49 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_50 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_c_51 : Ref sig .tc := ⟨.hbm, 180, rfl⟩
abbrev main_c_52 : Ref sig .tc := ⟨.hbm, 181, rfl⟩
abbrev main_v107 : Ref sig .tc := ⟨.hbm, 182, rfl⟩
abbrev main_c_53 : Ref sig .tc := ⟨.hbm, 183, rfl⟩
abbrev main_c_54 : Ref sig .tc := ⟨.hbm, 184, rfl⟩
abbrev main_v108 : Ref sig .tc := ⟨.hbm, 185, rfl⟩
abbrev main_c_55 : Ref sig .tc := ⟨.hbm, 186, rfl⟩
abbrev main_v109 : Ref sig .tc := ⟨.hbm, 187, rfl⟩
abbrev main_c_56 : Ref sig .tc := ⟨.hbm, 188, rfl⟩
abbrev main_v110 : Ref sig .tc := ⟨.hbm, 189, rfl⟩
abbrev main_c_57 : Ref sig .tc := ⟨.hbm, 190, rfl⟩
abbrev main_v111 : Ref sig .tc := ⟨.hbm, 191, rfl⟩
abbrev main_v112 : Ref sig .tc := ⟨.hbm, 192, rfl⟩
abbrev main_c_58 : Ref sig .tc := ⟨.hbm, 193, rfl⟩
abbrev main_v113 : Ref sig .tc := ⟨.hbm, 194, rfl⟩
abbrev main_c_59 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_cst_60 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_c_61 : Ref sig .tc := ⟨.hbm, 216, rfl⟩
abbrev main_c_62 : Ref sig .tc := ⟨.hbm, 217, rfl⟩
abbrev main_v133 : Ref sig .tc := ⟨.hbm, 218, rfl⟩
abbrev main_c_63 : Ref sig .tc := ⟨.hbm, 219, rfl⟩
abbrev main_c_64 : Ref sig .tc := ⟨.hbm, 220, rfl⟩
abbrev main_v134 : Ref sig .tc := ⟨.hbm, 221, rfl⟩
abbrev main_c_65 : Ref sig .tc := ⟨.hbm, 222, rfl⟩
abbrev main_v135 : Ref sig .tc := ⟨.hbm, 223, rfl⟩
abbrev main_c_66 : Ref sig .tc := ⟨.hbm, 224, rfl⟩
abbrev main_v136 : Ref sig .tc := ⟨.hbm, 225, rfl⟩
abbrev main_c_67 : Ref sig .tc := ⟨.hbm, 226, rfl⟩
abbrev main_v137 : Ref sig .tc := ⟨.hbm, 227, rfl⟩
abbrev main_v138 : Ref sig .tc := ⟨.hbm, 228, rfl⟩
abbrev main_c_68 : Ref sig .tc := ⟨.hbm, 229, rfl⟩
abbrev main_v139 : Ref sig .tc := ⟨.hbm, 230, rfl⟩
abbrev main_c_69 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_cst_70 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_c_71 : Ref sig .tc := ⟨.hbm, 245, rfl⟩
abbrev main_c_72 : Ref sig .tc := ⟨.hbm, 246, rfl⟩
abbrev main_v152 : Ref sig .tc := ⟨.hbm, 247, rfl⟩
abbrev main_c_73 : Ref sig .tc := ⟨.hbm, 248, rfl⟩
abbrev main_c_74 : Ref sig .tc := ⟨.hbm, 249, rfl⟩
abbrev main_v153 : Ref sig .tc := ⟨.hbm, 250, rfl⟩
abbrev main_c_75 : Ref sig .tc := ⟨.hbm, 251, rfl⟩
abbrev main_v154 : Ref sig .tc := ⟨.hbm, 252, rfl⟩
abbrev main_c_76 : Ref sig .tc := ⟨.hbm, 253, rfl⟩
abbrev main_v155 : Ref sig .tc := ⟨.hbm, 254, rfl⟩
abbrev main_c_77 : Ref sig .tc := ⟨.hbm, 255, rfl⟩
abbrev main_v156 : Ref sig .tc := ⟨.hbm, 256, rfl⟩
abbrev main_v157 : Ref sig .tc := ⟨.hbm, 257, rfl⟩
abbrev main_c_78 : Ref sig .tc := ⟨.hbm, 258, rfl⟩
abbrev main_v158 : Ref sig .tc := ⟨.hbm, 259, rfl⟩
abbrev main_c_79 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_80 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_c_81 : Ref sig .tc := ⟨.hbm, 274, rfl⟩
abbrev main_c_82 : Ref sig .tc := ⟨.hbm, 275, rfl⟩
abbrev main_v171 : Ref sig .tc := ⟨.hbm, 276, rfl⟩
abbrev main_c_83 : Ref sig .tc := ⟨.hbm, 277, rfl⟩
abbrev main_c_84 : Ref sig .tc := ⟨.hbm, 278, rfl⟩
abbrev main_v172 : Ref sig .tc := ⟨.hbm, 279, rfl⟩
abbrev main_c_85 : Ref sig .tc := ⟨.hbm, 280, rfl⟩
abbrev main_v173 : Ref sig .tc := ⟨.hbm, 281, rfl⟩
abbrev main_c_86 : Ref sig .tc := ⟨.hbm, 282, rfl⟩
abbrev main_v174 : Ref sig .tc := ⟨.hbm, 283, rfl⟩
abbrev main_c_87 : Ref sig .tc := ⟨.hbm, 284, rfl⟩
abbrev main_v175 : Ref sig .tc := ⟨.hbm, 285, rfl⟩
abbrev main_v176 : Ref sig .tc := ⟨.hbm, 286, rfl⟩
abbrev main_c_88 : Ref sig .tc := ⟨.hbm, 287, rfl⟩
abbrev main_v177 : Ref sig .tc := ⟨.hbm, 288, rfl⟩
abbrev main_c_89 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_cst_90 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_c_91 : Ref sig .tc := ⟨.hbm, 303, rfl⟩
abbrev main_c_92 : Ref sig .tc := ⟨.hbm, 304, rfl⟩
abbrev main_v190 : Ref sig .tc := ⟨.hbm, 305, rfl⟩
abbrev main_c_93 : Ref sig .tc := ⟨.hbm, 306, rfl⟩
abbrev main_c_94 : Ref sig .tc := ⟨.hbm, 307, rfl⟩
abbrev main_v191 : Ref sig .tc := ⟨.hbm, 308, rfl⟩
abbrev main_c_95 : Ref sig .tc := ⟨.hbm, 309, rfl⟩
abbrev main_v192 : Ref sig .tc := ⟨.hbm, 310, rfl⟩
abbrev main_c_96 : Ref sig .tc := ⟨.hbm, 311, rfl⟩
abbrev main_v193 : Ref sig .tc := ⟨.hbm, 312, rfl⟩
abbrev main_c_97 : Ref sig .tc := ⟨.hbm, 313, rfl⟩
abbrev main_v194 : Ref sig .tc := ⟨.hbm, 314, rfl⟩
abbrev main_v195 : Ref sig .tc := ⟨.hbm, 315, rfl⟩
abbrev main_c_98 : Ref sig .tc := ⟨.hbm, 316, rfl⟩
abbrev main_v196 : Ref sig .tc := ⟨.hbm, 317, rfl⟩
abbrev main_c_99 : Ref sig .tc := ⟨.hbm, 318, rfl⟩
abbrev main_v197 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_cst_100 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_c_101 : Ref sig .tc := ⟨.hbm, 332, rfl⟩
abbrev main_c_102 : Ref sig .tc := ⟨.hbm, 333, rfl⟩
abbrev main_v209 : Ref sig .tc := ⟨.hbm, 334, rfl⟩
abbrev main_c_103 : Ref sig .tc := ⟨.hbm, 335, rfl⟩
abbrev main_c_104 : Ref sig .tc := ⟨.hbm, 336, rfl⟩
abbrev main_v210 : Ref sig .tc := ⟨.hbm, 337, rfl⟩
abbrev main_c_105 : Ref sig .tc := ⟨.hbm, 338, rfl⟩
abbrev main_v211 : Ref sig .tc := ⟨.hbm, 339, rfl⟩
abbrev main_c_106 : Ref sig .tc := ⟨.hbm, 340, rfl⟩
abbrev main_v212 : Ref sig .tc := ⟨.hbm, 341, rfl⟩
abbrev main_c_107 : Ref sig .tc := ⟨.hbm, 342, rfl⟩
abbrev main_v213 : Ref sig .tc := ⟨.hbm, 343, rfl⟩
abbrev main_v214 : Ref sig .tc := ⟨.hbm, 344, rfl⟩
abbrev main_c_108 : Ref sig .tc := ⟨.hbm, 345, rfl⟩
abbrev main_v215 : Ref sig .tc := ⟨.hbm, 346, rfl⟩
abbrev main_c_109 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_cst_110 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_c_111 : Ref sig .tc := ⟨.hbm, 361, rfl⟩
abbrev main_c_112 : Ref sig .tc := ⟨.hbm, 362, rfl⟩
abbrev main_v228 : Ref sig .tc := ⟨.hbm, 363, rfl⟩
abbrev main_c_113 : Ref sig .tc := ⟨.hbm, 364, rfl⟩
abbrev main_c_114 : Ref sig .tc := ⟨.hbm, 365, rfl⟩
abbrev main_v229 : Ref sig .tc := ⟨.hbm, 366, rfl⟩
abbrev main_c_115 : Ref sig .tc := ⟨.hbm, 367, rfl⟩
abbrev main_v230 : Ref sig .tc := ⟨.hbm, 368, rfl⟩
abbrev main_c_116 : Ref sig .tc := ⟨.hbm, 369, rfl⟩
abbrev main_v231 : Ref sig .tc := ⟨.hbm, 370, rfl⟩
abbrev main_c_117 : Ref sig .tc := ⟨.hbm, 371, rfl⟩
abbrev main_v232 : Ref sig .tc := ⟨.hbm, 372, rfl⟩
abbrev main_v233 : Ref sig .tc := ⟨.hbm, 373, rfl⟩
abbrev main_c_118 : Ref sig .tc := ⟨.hbm, 374, rfl⟩
abbrev main_v234 : Ref sig .tc := ⟨.hbm, 375, rfl⟩
abbrev main_c_119 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_call1_cst : Ref sig .tc := ⟨.hbm, 390, rfl⟩
abbrev main_call1_v0 : Ref sig .tc := ⟨.hbm, 391, rfl⟩
abbrev main_call1_v1 : Ref sig .tc := ⟨.hbm, 392, rfl⟩
abbrev main_call1_v2 : Ref sig .tc := ⟨.hbm, 393, rfl⟩
abbrev main_call1_v3 : Ref sig .tc := ⟨.hbm, 394, rfl⟩
abbrev main_call1_v4 : Ref sig .tc := ⟨.hbm, 395, rfl⟩
abbrev main_call1_v5 : Ref sig .tc := ⟨.hbm, 396, rfl⟩
abbrev main_call1_v6 : Ref sig .tc := ⟨.hbm, 397, rfl⟩
abbrev main_call1_v7 : Ref sig .tc := ⟨.hbm, 398, rfl⟩
abbrev main_call1_v8 : Ref sig .tc := ⟨.hbm, 399, rfl⟩
abbrev main_call1_v9 : Ref sig .tc := ⟨.hbm, 400, rfl⟩
abbrev main_call1_v10 : Ref sig .tc := ⟨.hbm, 401, rfl⟩
abbrev main_call1_v11 : Ref sig .tc := ⟨.hbm, 402, rfl⟩
abbrev main_v248 : Ref sig .tc := ⟨.hbm, 403, rfl⟩
abbrev main_cst_120 : Ref sig .tc := ⟨.hbm, 404, rfl⟩
abbrev main_v249 : Ref sig .tc := ⟨.hbm, 405, rfl⟩
abbrev main_v250 : Ref sig .tc := ⟨.hbm, 406, rfl⟩
abbrev main_cst_121 : Ref sig .tc := ⟨.hbm, 407, rfl⟩
abbrev main_v251 : Ref sig .tc := ⟨.hbm, 408, rfl⟩
abbrev main_cst_122 : Ref sig .tc := ⟨.hbm, 409, rfl⟩
abbrev main_v252 : Ref sig .tc := ⟨.hbm, 410, rfl⟩
abbrev main_cst_123 : Ref sig .tc := ⟨.hbm, 411, rfl⟩
abbrev main_v253 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_cst_124 : Ref sig .tc := ⟨.hbm, 416, rfl⟩
abbrev main_v257 : Ref sig .tc := ⟨.hbm, 417, rfl⟩
abbrev main_v258 : Ref sig .tc := ⟨.hbm, 418, rfl⟩
abbrev main_v259 : Ref sig .tc := ⟨.hbm, 419, rfl⟩
abbrev main_v260 : Ref sig .tc := ⟨.hbm, 420, rfl⟩
abbrev main_v261 : Ref sig .tc := ⟨.hbm, 421, rfl⟩
abbrev main_cst_125 : Ref sig .tc := ⟨.hbm, 422, rfl⟩
abbrev main_v262 : Ref sig .tc := ⟨.hbm, 423, rfl⟩
abbrev main_v263 : Ref sig .tc := ⟨.hbm, 424, rfl⟩
abbrev main_v264 : Ref sig .tc := ⟨.hbm, 425, rfl⟩
abbrev main_v265 : Ref sig .tc := ⟨.hbm, 426, rfl⟩
abbrev main_v266 : Ref sig .tc := ⟨.hbm, 427, rfl⟩
abbrev main_cst_126 : Ref sig .tc := ⟨.hbm, 428, rfl⟩
abbrev main_v267 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_cst_127 : Ref sig .tc := ⟨.hbm, 435, rfl⟩
abbrev main_v273 : Ref sig .tc := ⟨.hbm, 436, rfl⟩
abbrev main_v274 : Ref sig .tc := ⟨.hbm, 437, rfl⟩
abbrev main_cst_128 : Ref sig .tc := ⟨.hbm, 438, rfl⟩
abbrev main_v275 : Ref sig .tc := ⟨.hbm, 439, rfl⟩
abbrev main_v276 : Ref sig .tc := ⟨.hbm, 440, rfl⟩
abbrev main_cst_129 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩

abbrev nD : Nat := 1
abbrev τ : Topo := Topo.v7x

variable {F : FTy → Type} [FloatOps F]
-- ==== Proof.Canvas.lean ====
/- What the precondition says of each centre: its two coordinates are small numbers, so its crop's corner lies on the canvas. -/
module

public import proofs.«01_k».proof.Pre_in_canvas
public import proofs.«01_k».proof.Proof.Gen.Pre_in_canvas
public import Idealize.ShloMosaic.Lib.Pipeline.Value
public import Idealize.ShloMosaic.Lib.ValueIdxRank6

@[expose] public section

set_option maxRecDepth 16384

noncomputable section

namespace Cert.Canvas

open Idealize.ShloMosaic
open Cert.Pre_in_canvas Cert.Pre_in_canvas.Facts

variable {F : FTy → Type} [FloatOps F] [Cert.Pre_in_canvas.Facts]

/-- Both halves of a conjunction of two truth words that is true are true. -/
theorem and_one : ∀ x y : BitVec 1, IntOp.andi x y = 1#1 → x = 1#1 ∧ y = 1#1 := by decide

/-- A small number's word, read signed, is the number. -/
theorem toInt_small (n : ℕ) (h : n < 2 ^ 31) : (BitVec.ofNat 32 n).toInt = n := by
  rw [BitVec.toInt_eq_toNat_of_lt] <;> rw [BitVec.toNat_ofNat, Nat.mod_eq_of_lt (by omega)]; omega

/-- A word compared between two constants, as a number. -/
theorem between (x : BitVec 32) (a k : ℕ) (ha : a + k < 2 ^ 31) (h : IntOp.cmpi .sge x (BitVec.ofNat 32 a) = 1#1)
    (h' : IntOp.cmpi .slt x (BitVec.ofNat 32 (a + k)) = 1#1) : ∃ n : Fin k, x = BitVec.ofNat 32 (a + n.val) := by
  have e : (BitVec.ofNat 32 a).toInt = a := toInt_small a (by omega)
  have e' : (BitVec.ofNat 32 (a + k)).toInt = a + k := (toInt_small (a + k) ha).trans (by push_cast; rfl)
  have l : (a : ℤ) ≤ x.toInt := by
    by_contra hc
    have : IntOp.cmpi .sge x (BitVec.ofNat 32 a) = 0#1 := by
      simp only [IntOp.cmpi, BitVec.sle, e]; simp [hc]
    rw [this] at h; exact absurd h (by decide)
  have l' : x.toInt < a + k := by
    by_contra hc
    have : IntOp.cmpi .slt x (BitVec.ofNat 32 (a + k)) = 0#1 := by
      simp only [IntOp.cmpi, BitVec.slt, e']; simp [hc]
    rw [this] at h'; exact absurd h' (by decide)
  refine ⟨⟨x.toInt.toNat - a, by omega⟩, BitVec.eq_of_toInt_eq ?_⟩
  rw [toInt_small _ (by show a + (x.toInt.toNat - a) < _; omega)]
  show x.toInt = ((a + (x.toInt.toNat - a) : ℕ) : ℤ)
  omega

variable (hm : FVec F S2x6x23x160x160 .f32) (vol : FVec F S2x23x50x50x50 .f32) (mid : FVec F S2x1x3 .f32) (v : IVec S2x6x2 32)

/-- Coordinate `e` of every centre, at an index, as the precondition takes it. -/
theorem coord_apply (e : Fin 2) (hs : S2x6x2.Slices ![0, 0, e.val] S2x6x1) (hc : S2x6x1.ShapeCasts S2x6) (b : Fin 2) (k : Fin 6) :
    shapeCast S2x6 (extractStridedSlice S2x6x1 ![0, 0, e.val] v hs) hc (ValueIdx.ix2 b k) = v (ValueIdx.ix3 b k e) := by
  refine (shapeCast_apply _ _ (ValueIdx.ix2 b k) (ValueIdx.ix3 b k (0 : Fin 1)) ?_).trans ?_
  · rw [Shape.rowMajor_val_three, Shape.rowMajor_val_two]; show (b.val * 6 + k.val) * 1 + 0 = b.val * 6 + k.val; omega
  · exact extractStridedSlice_apply _ _ _ _ (ValueIdx.ix3 b k e) fun a => match a with
      | ⟨0, _⟩ => by show b.val = 0 + b.val; omega
      | ⟨1, _⟩ => by show k.val = 0 + k.val; omega
      | ⟨2, _⟩ => by show e.val = e.val + 0; omega

/-- Every centre's column lies between 160 and 1119, and its row between 160 and 863. -/
theorem centre (h : Cert.Pre_in_canvas.fn (F := F) hm vol mid v = fun _ => 1#1) (b : Fin 2) (k : Fin 6) :
    (∃ n : Fin 960, v (ValueIdx.ix3 b k (0 : Fin 2)) = BitVec.ofNat 32 (160 + n.val)) ∧
      ∃ n : Fin 704, v (ValueIdx.ix3 b k (1 : Fin 2)) = BitVec.ofNat 32 (160 + n.val) := by
  have e := congrFun h (ValueIdx.ix2 b k)
  obtain ⟨e, e4⟩ := and_one _ _ (show IntOp.andi _ _ = 1#1 from e)
  obtain ⟨e, e3⟩ := and_one _ _ (show IntOp.andi _ _ = 1#1 from e)
  obtain ⟨e1, e2⟩ := and_one _ _ (show IntOp.andi _ _ = 1#1 from e)
  have x := coord_apply v 0 slices_S2x6x2_S2x6x1_0_0_0 shapeCasts_S2x6x1_S2x6 b k
  have y := coord_apply v 1 slices_S2x6x2_S2x6x1_0_0_1 shapeCasts_S2x6x1_S2x6 b k
  refine ⟨between _ 160 960 (by decide) ?_ ?_, between _ 160 704 (by decide) ?_ ?_⟩
  · rw [← x]; exact e1
  · rw [← x]; exact e2
  · rw [← y]; exact e3
  · rw [← y]; exact e4

end Cert.Canvas

end
-- ==== Proof.SoftI.lean ====
/- For the idealized program. The softargmax kernel (the first custom call) as a pipeline: the body's run at a grid point and the pipeline's proof data, at any
   contents of the arrays when the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic

@[expose] public section

set_option maxRecDepth 16384

noncomputable section

namespace Cert.KernelIdeal.Soft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the arrays when the region is entered
variable (V : (c : Dev nD) → (b : Ref sig .tc) → Buf (Elt F) ((c : Thread nD τ).loc b))

/-- The block of window `w` at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What the body reads and writes whole: the two volumes of a block and their two rows of coordinates. -/
abbrev r0_0 : Rect S2x50x50x50 := Rect.unit (s := S2x50x50x50) ![0, 0, 0, 0] S1x50x50x50.size inb_S2x50x50x50_S1x50x50x50_0_0_0_0
abbrev r0_1 : Rect S2x8x128 := Rect.unit (s := S2x8x128) ![0, 0, 0] S1x8x128.size inb_S2x8x128_S1x8x128_0_0_0
abbrev r0_2 : Rect S2x50x50x50 := Rect.unit (s := S2x50x50x50) ![1, 0, 0, 0] S1x50x50x50.size inb_S2x50x50x50_S1x50x50x50_1_0_0_0
abbrev r0_3 : Rect S2x8x128 := Rect.unit (s := S2x8x128) ![1, 0, 0] S1x8x128.size inb_S2x8x128_S1x8x128_1_0_0

/-- The lane numbers that the rows of coordinates are selected by. -/
def k0_pay15 (x0 : Vec F S2x50x50x50 .f32) : IVec S8x128 32 :=
  iota .tc S8x128 32 [1] iota_S8x128_d1_w32 -- `v0`

/-- The softplus block that the body leaves: volume by volume, the last first. -/
def out0_1 (x0 : Vec F S2x50x50x50 .f32) : Vec F S2x50x50x50 .f32 :=
  View.canon [⟨r0_2, k0_pay13 (View.ld x0 r0_2)⟩,
    ⟨r0_0, k0_pay4 (View.ld x0 r0_0)⟩]

/-- The two volumes cover the block. -/
theorem cover0_1 (p0 : Vec F S1x50x50x50 .f32) (p1 : Vec F S1x50x50x50 .f32) (y : S2x50x50x50.Idx) :
    ∃ pc ∈ ([⟨r0_2, p0⟩, ⟨r0_0, p1⟩] : List (View.Piece (Elt F) S2x50x50x50 .f32)), y ∈ pc.1.set :=
  View.cover_of_tiled [⟨r0_2, p0⟩, ⟨r0_0, p1⟩] S1x50x50x50.size (by rfl) y

/-- The coordinates' block that the body leaves: row by row, the last first. -/
def out0_2 (x0 : Vec F S2x50x50x50 .f32) : Vec F S2x8x128 .f32 :=
  View.canon [⟨r0_3, k0_pay1 (k0_pay14 (k0_pay15 x0) (k0_pay2 (F := F)) (k0_pay12 (View.ld x0 r0_2)))⟩,
    ⟨r0_1, k0_pay11 (k0_pay15 x0) (k0_pay7 (View.ld x0 r0_0)) (k0_pay8 (View.ld x0 r0_0)) (k0_pay9 (View.ld x0 r0_0)) (k0_pay10 (View.ld x0 r0_0))⟩]

/-- The two rows cover the block. -/
theorem cover0_2 (p0 : Vec F S1x8x128 .f32) (p1 : Vec F S1x8x128 .f32) (y : S2x8x128.Idx) :
    ∃ pc ∈ ([⟨r0_3, p0⟩, ⟨r0_1, p1⟩] : List (View.Piece (Elt F) S2x8x128 .f32)), y ∈ pc.1.set :=
  View.cover_of_tiled [⟨r0_3, p0⟩, ⟨r0_1, p1⟩] S1x8x128.size (by rfl) y

set_option maxHeartbeats 1000000 in
/-- The softargmax body on whole buffers: from an input block `x0` it leaves the two output blocks computed from `x0`. -/
theorem sound_kernel0 (c : Dev nD) (E : Set ℕ) (i : grid0.Coords) (arg1 : Memref sig .tc .vmem S2x50x50x50 .f32) (harg1 : arg1.IsWhole) (arg2 : Memref sig .tc .vmem S2x50x50x50 .f32) (harg2 : arg2.IsWhole) (arg3 : Memref sig .tc .vmem S2x8x128 .f32) (harg3 : arg3.IsWhole)
    (x0 : Vec F S2x50x50x50 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__softargmax_body i arg1 harg1 arg2 harg2 arg3 harg3) K := by
  simp only [cc0__softargmax_body_eq_skeleton]; unfold cc0__softargmax_body_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _)).trans ?_
    rfl
  iexists _; isplitr
  swap; · iexact H2
  ipureintro
  refine (View.read_writes_eq_canon _ _ _ (cover0_2 _ _)).trans ?_
  rfl

/-- The softargmax pipeline's proof data: arrays as found, each block's results as computed from the input block, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The arrays as the region finds them. -/
theorem A_eq0 (c : Dev nD) (w : Fin cfg0.W) : (dat0 V c).A w = V c (Pipeline.arrRef spec0 w) := by
  dsimp only [dat0]

/-- What each window's buffer holds after the body. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input block is in place before the body. -/
theorem before0_0 (c : Dev nD) (t : Fin cfg0.N) (d) : (dat0 V c).before 0 t d = iblk0 V c 0 t :=
  before0_0_of V (dat0 V c) (A_eq0 V c 0) (after0_0 V c) t d

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's row in the table of bodies. -/
theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Soft
end
-- ==== Proof.PlaceBodyI.lean ====
/- For the idealized program. The body of the placing kernel (the second custom call) at one grid point: six heatmaps are written, one after another, into the corner
   of a zeroed scratch band, the band is rotated to its column and to its row within a group of eight, and stored over a zeroed canvas. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.ValueLayout

@[expose] public section

set_option maxRecDepth 16384

noncomputable section

namespace Cert.KernelIdeal.Place

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The float zero the kernel fills with. -/
def zero : F .f32 := Scalar.ofBits .f32 0x00000000#32

/-- A heatmap in the corner of a band that is zero elsewhere. -/
def padOf (w : Vec F S160x160 .f32) : Vec F S168x640 .f32 := fun y =>
  if h : (y 0).val < 160 ∧ (y 1).val < 160 then w (ix2 ⟨(y 0).val, h.1⟩ ⟨(y 1).val, h.2⟩) else zero

/-- Heatmap `k` of a block of six. -/
def rowOf (x0 : Vec F S6x160x160 .f32) (k : Fin 6) : Vec F S160x160 .f32 := fun j => x0 (ix3 k (j 0) (j 1))

/-- The first canvas row that the band of a heatmap placed at row `w` covers: `w` rounded down to a multiple of eight. -/
def top (w : BitVec 32) : ℕ := k1_off2 w 1

/-- Row `y1`, column `y2` of a canvas that holds the band `P` from row `b` on and zero elsewhere. -/
def bandAt (b : ℕ) (P : Vec F S1x168x640 .f32) (y1 : Fin 512) (y2 : Fin 640) : F .f32 :=
  if h : b ≤ y1.val ∧ y1.val < b + 168 then P (ix3 (0 : Fin 1) (⟨y1.val - b, by omega⟩ : Fin 168) y2) else zero

/-- What the canvases hold where the band of canvas `k` is `P k`: the band from row `top (Y k)` on, zero elsewhere. -/
def canvas (Y : Fin 6 → BitVec 32) (P : Fin 6 → Vec F S1x168x640 .f32) : Vec F S6x512x640 .f32 := fun y =>
  bandAt (top (Y (y 0))) (P (y 0)) (y 1) (y 2)

/-- The body's output: canvas `k` holds heatmap `k` of the block at column `X k` and row `Y k`. -/
def placed (X Y : Fin 6 → BitVec 32) (x0 : Vec F S6x160x160 .f32) : Vec F S6x512x640 .f32 :=
  canvas Y fun k => k1_pay8 (X k) (Y k) (padOf (rowOf x0 k))

/-- The scratch band reads zero outside its corner. -/
def ZeroOut (v : Vec F S168x640 .f32) : Prop := ∀ y : S168x640.Idx, ¬ ((y 0).val < 160 ∧ (y 1).val < 160) → v y = zero

section Scratch
variable {sp : Space} (v : View sig .tc sp S168x640 .f32) (f : v.ty.Contents (Elt F))

/-- A heatmap stored into the corner leaves the rest of the band zero. -/
theorem zeroOut_cons (w : Vec F S160x160 .f32) (L : List (View.Piece (Elt F) S168x640 .f32))
    (inb : ∀ a, (![0, 0] : Fin 2 → ℕ) a + S160x160.size a ≤ S168x640.size a)
    (h : ZeroOut (v.read (Elt F) (v.writes (Elt F) f L))) :
    ZeroOut (v.read (Elt F) (v.writes (Elt F) f (⟨Rect.unit (s := S168x640) ![0, 0] S160x160.size inb, w⟩ :: L))) := fun y hy => by
  rw [View.read_writes_cons_miss]
  · exact h y hy
  · rw [Rect.mem_set_unit]
    intro hm
    have h0 := (hm 0).2; have h1 := (hm 1).2
    exact hy ⟨by simpa using h0, by simpa using h1⟩

/-- The band read whole after a heatmap is stored into the corner. -/
theorem read_pad (w : Vec F S160x160 .f32) (L : List (View.Piece (Elt F) S168x640 .f32))
    (inb : ∀ a, (![0, 0] : Fin 2 → ℕ) a + S160x160.size a ≤ S168x640.size a)
    (inb' : ∀ a, (![0, 0] : Fin 2 → ℕ) a + S168x640.size a ≤ S168x640.size a)
    (h : ZeroOut (v.read (Elt F) (v.writes (Elt F) f L))) :
    v.readAt (Elt F) (Rect.unit (s := S168x640) ![0, 0] S168x640.size inb').toLoadRect
      (v.writes (Elt F) f (⟨Rect.unit (s := S168x640) ![0, 0] S160x160.size inb, w⟩ :: L)) = padOf w := by
  funext y
  have e : (Rect.unit (s := S168x640) ![0, 0] S168x640.size inb').idx y = y := by
    funext a; apply Fin.ext
    match a with
    | ⟨0, _⟩ => show 0 + 1 * (y 0).val = (y 0).val; omega
    | ⟨1, _⟩ => show 0 + 1 * (y 1).val = (y 1).val; omega
  show v.read (Elt F) _ ((Rect.unit (s := S168x640) ![0, 0] S168x640.size inb').idx y) = _
  rw [e]
  unfold padOf
  by_cases hy : (y 0).val < 160 ∧ (y 1).val < 160
  · rw [dif_pos hy]
    refine View.read_writes_cons_hit_of_coords v f (Rect.unit (s := S168x640) ![0, 0] S160x160.size inb) w L
      (ix2 (⟨(y 0).val, hy.1⟩ : Fin 160) (⟨(y 1).val, hy.2⟩ : Fin 160)) y ?_
    intro a
    match a with
    | ⟨0, _⟩ => show (y 0).val = 0 + 1 * (y 0).val; omega
    | ⟨1, _⟩ => show (y 1).val = 0 + 1 * (y 1).val; omega
  · rw [dif_neg hy]
    exact zeroOut_cons v f w L inb h y hy

/-- The band stored whole at zero is zero outside its corner. -/
theorem zeroOut_whole (inb' : ∀ a, (![0, 0] : Fin 2 → ℕ) a + S168x640.size a ≤ S168x640.size a) :
    ZeroOut (v.read (Elt F) (v.writes (Elt F) f [⟨Rect.unit (s := S168x640) ![0, 0] S168x640.size inb', k1_pay5⟩])) := fun y _ => by
  refine (View.read_writes_cons_hit_of_coords v f (Rect.unit (s := S168x640) ![0, 0] S168x640.size inb') k1_pay5 [] y y ?_).trans rfl
  intro a
  match a with
  | ⟨0, _⟩ => show (y 0).val = 0 + 1 * (y 0).val; omega
  | ⟨1, _⟩ => show (y 1).val = 0 + 1 * (y 1).val; omega
end Scratch

section Canvas
variable {sp : Space} (v : View sig .tc sp S6x512x640 .f32) (f : v.ty.Contents (Elt F))

/-- One canvas' two stores, zeros over the whole of it and then its band from row `b` on, read at an index. -/
theorem read_row (k b : ℕ) (off : Fin 3 → ℕ) (hoff : off = ![k, b, 0]) (h : ∀ a, off a + S1x168x640.size a ≤ S6x512x640.size a)
    (h' : ∀ a, (![k, 0, 0] : Fin 3 → ℕ) a + S1x512x640.size a ≤ S6x512x640.size a)
    (P : Vec F S1x168x640 .f32) (Z : Vec F S1x512x640 .f32) (hZ : Z = fun _ => zero) (L : List (View.Piece (Elt F) S6x512x640 .f32)) (y : S6x512x640.Idx) :
    v.read (Elt F) (v.writes (Elt F) f (⟨Rect.unit (s := S6x512x640) off S1x168x640.size h, P⟩
        :: ⟨Rect.unit (s := S6x512x640) ![k, 0, 0] S1x512x640.size h', Z⟩ :: L)) y
      = if (y 0).val = k then bandAt b P (y 1) (y 2) else v.read (Elt F) (v.writes (Elt F) f L) y := by
  subst hoff
  subst hZ
  by_cases hk : (y 0).val = k
  · rw [if_pos hk]
    unfold bandAt
    by_cases hb : b ≤ (y 1).val ∧ (y 1).val < b + 168
    · rw [dif_pos hb]
      refine View.read_writes_cons_hit_of_coords v f (Rect.unit (s := S6x512x640) ![k, b, 0] S1x168x640.size h) P _
        (ix3 (0 : Fin 1) (⟨(y 1).val - b, by omega⟩ : Fin 168) (y 2)) y ?_
      intro a
      match a with
      | ⟨0, _⟩ => show (y 0).val = k + 1 * 0; omega
      | ⟨1, _⟩ => show (y 1).val = b + 1 * ((y 1).val - b); omega
      | ⟨2, _⟩ => show (y 2).val = 0 + 1 * (y 2).val; omega
    · rw [dif_neg hb, View.read_writes_cons_miss_of_axis v f _ _ y 1 b 168 rfl rfl rfl (by omega)]
      refine View.read_writes_cons_hit_of_coords v f (Rect.unit (s := S6x512x640) ![k, 0, 0] S1x512x640.size h') (fun _ => zero) L
        (ix3 (0 : Fin 1) (y 1) (y 2)) y ?_
      intro a
      match a with
      | ⟨0, _⟩ => show (y 0).val = k + 1 * 0; omega
      | ⟨1, _⟩ => show (y 1).val = 0 + 1 * (y 1).val; omega
      | ⟨2, _⟩ => show (y 2).val = 0 + 1 * (y 2).val; omega
  · rw [if_neg hk, View.read_writes_cons_miss_of_axis v f _ _ y 0 k 1 rfl rfl rfl (by omega),
      View.read_writes_cons_miss_of_axis v f _ _ y 0 k 1 rfl rfl rfl (by omega)]

/-- The six canvases' twelve stores leave `canvas`. -/
theorem read_canvas (w0 w1 w2 w3 w4 w5 : BitVec 32) (P0 P1 P2 P3 P4 P5 : Vec F S1x168x640 .f32)
    (h0 : ∀ a, k1_off2 w0 a + S1x168x640.size a ≤ S6x512x640.size a) (h1 : ∀ a, k1_off4 w1 a + S1x168x640.size a ≤ S6x512x640.size a)
    (h2 : ∀ a, k1_off6 w2 a + S1x168x640.size a ≤ S6x512x640.size a) (h3 : ∀ a, k1_off8 w3 a + S1x168x640.size a ≤ S6x512x640.size a)
    (h4 : ∀ a, k1_off10 w4 a + S1x168x640.size a ≤ S6x512x640.size a) (h5 : ∀ a, k1_off12 w5 a + S1x168x640.size a ≤ S6x512x640.size a) :
    v.read (Elt F) (v.writes (Elt F) f
      [⟨Rect.unit (s := S6x512x640) (k1_off12 w5) S1x168x640.size h5, P5⟩,
        ⟨Rect.unit (s := S6x512x640) ![5, 0, 0] S1x512x640.size inb_S6x512x640_S1x512x640_5_0_0, k1_pay3⟩,
        ⟨Rect.unit (s := S6x512x640) (k1_off10 w4) S1x168x640.size h4, P4⟩,
        ⟨Rect.unit (s := S6x512x640) ![4, 0, 0] S1x512x640.size inb_S6x512x640_S1x512x640_4_0_0, k1_pay22⟩,
        ⟨Rect.unit (s := S6x512x640) (k1_off8 w3) S1x168x640.size h3, P3⟩,
        ⟨Rect.unit (s := S6x512x640) ![3, 0, 0] S1x512x640.size inb_S6x512x640_S1x512x640_3_0_0, k1_pay18⟩,
        ⟨Rect.unit (s := S6x512x640) (k1_off6 w2) S1x168x640.size h2, P2⟩,
        ⟨Rect.unit (s := S6x512x640) ![2, 0, 0] S1x512x640.size inb_S6x512x640_S1x512x640_2_0_0, k1_pay14⟩,
        ⟨Rect.unit (s := S6x512x640) (k1_off4 w1) S1x168x640.size h1, P1⟩,
        ⟨Rect.unit (s := S6x512x640) ![1, 0, 0] S1x512x640.size inb_S6x512x640_S1x512x640_1_0_0, k1_pay10⟩,
        ⟨Rect.unit (s := S6x512x640) (k1_off2 w0) S1x168x640.size h0, P0⟩,
        ⟨Rect.unit (s := S6x512x640) ![0, 0, 0] S1x512x640.size inb_S6x512x640_S1x512x640_0_0_0, k1_pay7⟩])
      = canvas ![w0, w1, w2, w3, w4, w5] ![P0, P1, P2, P3, P4, P5] := by
  funext y
  rw [read_row v f 5 (top w5) (k1_off12 w5) rfl h5 inb_S6x512x640_S1x512x640_5_0_0 P5 k1_pay3 rfl,
    read_row v f 4 (top w4) (k1_off10 w4) rfl h4 inb_S6x512x640_S1x512x640_4_0_0 P4 k1_pay22 rfl,
    read_row v f 3 (top w3) (k1_off8 w3) rfl h3 inb_S6x512x640_S1x512x640_3_0_0 P3 k1_pay18 rfl,
    read_row v f 2 (top w2) (k1_off6 w2) rfl h2 inb_S6x512x640_S1x512x640_2_0_0 P2 k1_pay14 rfl,
    read_row v f 1 (top w1) (k1_off4 w1) rfl h1 inb_S6x512x640_S1x512x640_1_0_0 P1 k1_pay10 rfl,
    read_row v f 0 (top w0) (k1_off2 w0) rfl h0 inb_S6x512x640_S1x512x640_0_0_0 P0 k1_pay7 rfl]
  generalize v.read (Elt F) (v.writes (Elt F) f []) y = d
  have key : ∀ k : Fin 6,
      (if k.val = 5 then bandAt (top w5) P5 (y 1) (y 2) else if k.val = 4 then bandAt (top w4) P4 (y 1) (y 2) else
        if k.val = 3 then bandAt (top w3) P3 (y 1) (y 2) else if k.val = 2 then bandAt (top w2) P2 (y 1) (y 2) else
        if k.val = 1 then bandAt (top w1) P1 (y 1) (y 2) else if k.val = 0 then bandAt (top w0) P0 (y 1) (y 2) else d)
      = bandAt (top ((![w0, w1, w2, w3, w4, w5] : Fin 6 → BitVec 32) k))
          ((![P0, P1, P2, P3, P4, P5] : Fin 6 → Vec F S1x168x640 .f32) k) (y 1) (y 2) := by
    intro k
    fin_cases k <;> rfl
  exact key (y 0)
end Canvas

/-- The word of a table that canvas `k` of grid point `i` reads. -/
def word (T : Vec F S276 .i32) (i : grid1.Coords) (k : Fin 6) : BitVec 32 :=
  T (ValueIdx.ix1 (⟨6 * (i 0).val + k.val, by have := (i 0).isLt; have : (i 0).val < 46 := this; omega⟩ : Fin 276))

end Cert.KernelIdeal.Place
end
-- ==== Proof.PlaceI.lean ====
/- For the idealized program. One run of the placing kernel's body, from its generated skeleton. -/
module

public import proofs.«01_k».proof.Proof.PlaceBodyI
public import Idealize.ShloMosaic.Lib.Pipeline.Value

@[expose] public section

set_option maxRecDepth 16384

noncomputable section

namespace Cert.KernelIdeal.Place

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The number of a canvas among all the canvases, as the kernel computes it, does not wrap. -/
theorem off_word : ∀ (n : Fin 46) (k : Fin 6),
    (Scalar.indexCast (Scalar.addi (Scalar.muli (BitVec.ofNat 32 n.val) 6#32) (BitVec.ofNat 32 k.val)) : Index).toNat = 6 * n.val + k.val := by
  decide +kernel

/-- The six places the body reads its words at. -/
theorem off_words (i : grid1.Coords) :
    k1_off1 i = ![6 * (i 0).val + 0] ∧ k1_off3 i = ![6 * (i 0).val + 1] ∧ k1_off5 i = ![6 * (i 0).val + 2]
      ∧ k1_off7 i = ![6 * (i 0).val + 3] ∧ k1_off9 i = ![6 * (i 0).val + 4] ∧ k1_off11 i = ![6 * (i 0).val + 5] := by
  have e := fun k : Fin 6 => congrArg (fun n : ℕ => (![n] : Fin 1 → ℕ)) (off_word (i 0) k)
  exact ⟨e 0, e 1, e 2, e 3, e 4, e 5⟩

/-- A row word in the range the body's stores need: its band starts at a multiple of eight and ends on the canvas. -/
def InRange (w : BitVec 32) : Prop := 8 ∣ (k1_mult1 w).toNat ∧ top w ≤ 344

/-- Such a word's band is stored inside the canvases. -/
theorem InRange.inb {w : BitVec 32} (h : InRange w) (k : ℕ) (hk : k < 6) : ∀ a, (![k, top w, 0] : Fin 3 → ℕ) a + S1x168x640.size a ≤ S6x512x640.size a :=
  fun a => match a with
  | ⟨0, _⟩ => by show k + 1 ≤ 6; omega
  | ⟨1, _⟩ => by have := h.2; show top w + 168 ≤ 512; omega
  | ⟨2, _⟩ => by show 0 + 640 ≤ 640; omega

/-- A word of a table read through a one-element rectangle. -/
theorem word_eq {sp : Space} (v : View sig .tc sp S276 .i32) (f : v.ty.Contents (Elt F)) (i : grid1.Coords) (k : Fin 6) (off : Fin 1 → ℕ)
    (hoff : off = ![6 * (i 0).val + k.val]) (h : ∀ a, off a + S1.size a ≤ S276.size a) (x : S1.Idx) :
    v.readAt (Elt F) (Rect.unit (s := S276) off S1.size h).toLoadRect f x = word (v.read (Elt F) f) i k := by
  subst hoff
  show v.read (Elt F) f _ = v.read (Elt F) f _
  refine congrArg _ (funext fun a => Fin.ext ?_)
  match a with
  | ⟨0, _⟩ =>
    have hx : (x 0).val < 1 := (x 0).isLt
    show 6 * (i 0).val + k.val + 1 * (x 0).val = 6 * (i 0).val + k.val
    omega

theorem crop_inb (k : Fin 6) : ∀ a, (![k.val, 0, 0] : Fin 3 → ℕ) a + S1x160x160.size a ≤ S6x160x160.size a := fun a =>
  match a with
  | ⟨0, _⟩ => by show k.val + 1 ≤ 6; omega
  | ⟨1, _⟩ => by show 0 + 160 ≤ 160; omega
  | ⟨2, _⟩ => by show 0 + 160 ≤ 160; omega

/-- Heatmap `k` as it is loaded from the block and stored into the corner. -/
theorem load_row {sp : Space} (v : View sig .tc sp S6x160x160 .f32) (f : v.ty.Contents (Elt F)) (k : Fin 6) :
    k1_pay6 (v.readAt (Elt F) (Rect.unit (s := S6x160x160) ![k.val, 0, 0] S1x160x160.size (crop_inb k)).toLoadRect f)
      = rowOf (v.read (Elt F) f) k := by
  unfold k1_pay6
  funext j
  obtain ⟨a, b, rfl⟩ : ∃ (a b : Fin 160), j = ix2 a b := ⟨j 0, j 1, ValueIdx.eq_ix2 j⟩
  rw [shapeCast_self]
  rw [shapeCast_1ab_ab_apply]
  show v.read (Elt F) f _ = v.read (Elt F) f _
  refine congrArg _ (funext fun d => Fin.ext ?_)
  match d with
  | ⟨0, _⟩ => show k.val + 1 * 0 = k.val; omega
  | ⟨1, _⟩ => show 0 + 1 * a.val = a.val; omega
  | ⟨2, _⟩ => show 0 + 1 * b.val = b.val; omega

/-- The canvases of bands computed from the right words and from the heatmaps in their corners are the placed heatmaps. -/
theorem canvas_eq (X Y : Fin 6 → BitVec 32) (x0 : Vec F S6x160x160 .f32) (a0 a1 a2 a3 a4 a5 b0 b1 b2 b3 b4 b5 : BitVec 32)
    (p0 p1 p2 p3 p4 p5 : Vec F S168x640 .f32)
    (ha : a0 = X 0 ∧ a1 = X 1 ∧ a2 = X 2 ∧ a3 = X 3 ∧ a4 = X 4 ∧ a5 = X 5)
    (hb : b0 = Y 0 ∧ b1 = Y 1 ∧ b2 = Y 2 ∧ b3 = Y 3 ∧ b4 = Y 4 ∧ b5 = Y 5)
    (h0 : p0 = padOf (rowOf x0 0)) (h1 : p1 = padOf (rowOf x0 1)) (h2 : p2 = padOf (rowOf x0 2))
    (h3 : p3 = padOf (rowOf x0 3)) (h4 : p4 = padOf (rowOf x0 4)) (h5 : p5 = padOf (rowOf x0 5)) :
    canvas ![b0, b1, b2, b3, b4, b5]
      ![k1_pay8 a0 b0 p0, k1_pay11 a1 b1 p1, k1_pay15 a2 b2 p2, k1_pay19 (k1_pay17 a3 b3 p3), k1_pay1 (k1_pay21 a4 b4 p4), k1_pay4 a5 b5 p5]
      = placed X Y x0 := by
  obtain ⟨rfl, rfl, rfl, rfl, rfl, rfl⟩ := ha
  obtain ⟨rfl, rfl, rfl, rfl, rfl, rfl⟩ := hb
  subst h0 h1 h2 h3 h4 h5
  have e : ∀ k : Fin 6, (![Y 0, Y 1, Y 2, Y 3, Y 4, Y 5] : Fin 6 → BitVec 32) k = Y k := by
    intro k; fin_cases k <;> rfl
  have e' : (![Y 0, Y 1, Y 2, Y 3, Y 4, Y 5] : Fin 6 → BitVec 32) = Y := funext e
  rw [e']
  unfold placed
  refine congrArg (canvas Y) (funext fun k => ?_)
  fin_cases k <;> rfl

/-- Whether the kernel is at the first grid point, as its text asks. -/
abbrev atFirst (i : grid1.Coords) : Prop :=
  Scalar.cmpi .ne (Scalar.extui (Scalar.cmpi .eq (BitVec.ofNat 32 (i 0).val) 0#32) : BitVec 32) 0#32 = 1#1

set_option maxHeartbeats 600000 in
/-- The placing kernel's body at a grid point, on whole buffers: with the scratch band zero outside its corner unless this is the first
    point, and every row word in the range its stores need, the body leaves the placed heatmaps and a scratch band zero outside its corner. -/
theorem body_run (c : Dev nD) (E : Set ℕ) (i : grid1.Coords)
    (arg1 : Memref sig .tc .smem S276 .i32) (harg1 : arg1.IsWhole) (arg2 : Memref sig .tc .smem S276 .i32) (harg2 : arg2.IsWhole)
    (arg3 : Memref sig .tc .vmem S6x160x160 .f32) (harg3 : arg3.IsWhole) (arg4 : Memref sig .tc .vmem S6x512x640 .f32) (harg4 : arg4.IsWhole)
    (arg5 : Memref sig .tc .vmem S168x640 .f32) (harg5 : arg5.IsWhole)
    (T1 T2 : Vec F S276 .i32) (x0 : Vec F S6x160x160 .f32) (d : Vec F S168x640 .f32) (hd : ¬ atFirst i → ZeroOut d)
    (hT : ∀ y, InRange (T2 y)) (K : PUnit → sProp 𝕄) :
    iprop(owns (c : Thread nD τ) arg1 fullShare T1 ∗ owns (c : Thread nD τ) arg2 fullShare T2 ∗ owns (c : Thread nD τ) arg3 fullShare x0
        ∗ (∃ d, owns (c : Thread nD τ) arg4 fullShare d) ∗ owns (c : Thread nD τ) arg5 fullShare d
        ∗ (iprop(owns (c : Thread nD τ) arg1 fullShare T1 ∗ owns (c : Thread nD τ) arg2 fullShare T2 ∗ owns (c : Thread nD τ) arg3 fullShare x0
            ∗ owns (c : Thread nD τ) arg4 fullShare (placed (word T1 i) (word T2 i) x0)
            ∗ (∃ d, ⌜ZeroOut d⌝ ∗ owns (c : Thread nD τ) arg5 fullShare d)) -∗ K ⟨⟩))
      ⊢ wp frame (wpE (defs₀ (F := F)) Variants.none c none) E (cc1__place_body i arg1 harg1 arg2 harg2 arg3 harg3 arg4 harg4 arg5 harg5) K := by
  have h1 : ∀ y, k1_chk1 (T2 y) := fun y => ⟨(hT y).1, (hT y).inb 0 (by decide)⟩
  have h2 : ∀ y, k1_chk2 (T2 y) := fun y => ⟨(hT y).1, (hT y).inb 1 (by decide)⟩
  have h3 : ∀ y, k1_chk3 (T2 y) := fun y => ⟨(hT y).1, (hT y).inb 2 (by decide)⟩
  have h4 : ∀ y, k1_chk4 (T2 y) := fun y => ⟨(hT y).1, (hT y).inb 3 (by decide)⟩
  have h5 : ∀ y, k1_chk5 (T2 y) := fun y => ⟨(hT y).1, (hT y).inb 4 (by decide)⟩
  have h6 : ∀ y, k1_chk6 (T2 y) := fun y => ⟨(hT y).1, (hT y).inb 5 (by decide)⟩
  simp only [cc1__place_body_eq_skeleton]; unfold cc1__place_body_skel
  simp only [k1_part1_eq_skeleton, k1_part2_eq_skeleton, k1_part3_eq_skeleton, k1_part4_eq_skeleton]
  unfold k1_part1_skel
  obtain ⟨o1, o2, o3, o4, o5, o6⟩ := off_words i
  by_cases hi : atFirst i
  on_goal 1 => simp only [dif_pos hi]
  on_goal 2 => simp only [dif_neg hi]
  all_goals
    unfold owns
    iintro ⟨⟨%f1, %hf1, H1⟩, ⟨%f2, %hf2, H2⟩, ⟨%f3, %hf3, H3⟩, ⟨%d4, %f4, -, H4⟩, ⟨%f5, %hf5, H5⟩, Hk⟩
    subst hf1
    subst hf2
    subst hf3
    subst hf5
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (read_canvas arg4.view f4 _ _ _ _ _ _ _ _ _ _ _ _ _ _ _ _ _ _).trans ?_
      refine canvas_eq _ _ _ _ _ _ _ _ _ _ _ _ _ _ _ _ _ _ _ _ _ ⟨?_, ?_, ?_, ?_, ?_, ?_⟩ ⟨?_, ?_, ?_, ?_, ?_, ?_⟩ ?_ ?_ ?_ ?_ ?_ ?_
      on_goal 1 => exact word_eq arg1.view f1 i 0 _ o1 _ _
      on_goal 1 => exact word_eq arg1.view f1 i 1 _ o2 _ _
      on_goal 1 => exact word_eq arg1.view f1 i 2 _ o3 _ _
      on_goal 1 => exact word_eq arg1.view f1 i 3 _ o4 _ _
      on_goal 1 => exact word_eq arg1.view f1 i 4 _ o5 _ _
      on_goal 1 => exact word_eq arg1.view f1 i 5 _ o6 _ _
      on_goal 1 => exact word_eq arg2.view f2 i 0 _ o1 _ _
      on_goal 1 => exact word_eq arg2.view f2 i 1 _ o2 _ _
      on_goal 1 => exact word_eq arg2.view f2 i 2 _ o3 _ _
      on_goal 1 => exact word_eq arg2.view f2 i 3 _ o4 _ _
      on_goal 1 => exact word_eq arg2.view f2 i 4 _ o5 _ _
      on_goal 1 => exact word_eq arg2.view f2 i 5 _ o6 _ _
      on_goal 1 => refine (read_pad arg5.view _ _ _ _ _ ?_).trans (congrArg padOf (load_row arg3.view f3 0))
      on_goal 2 => refine (read_pad arg5.view _ _ _ _ _ ?_).trans (congrArg padOf (load_row arg3.view f3 1))
      on_goal 3 => refine (read_pad arg5.view _ _ _ _ _ ?_).trans (congrArg padOf (load_row arg3.view f3 2))
      on_goal 4 => refine (read_pad arg5.view _ _ _ _ _ ?_).trans (congrArg padOf (load_row arg3.view f3 3))
      on_goal 5 => refine (read_pad arg5.view _ _ _ _ _ ?_).trans (congrArg padOf (load_row arg3.view f3 4))
      on_goal 6 => refine (read_pad arg5.view _ _ _ _ _ ?_).trans (congrArg padOf (load_row arg3.view f3 5))
      on_goal 2 => iterate 1 refine zeroOut_cons _ _ _ _ _ ?_
      on_goal 3 => iterate 2 refine zeroOut_cons _ _ _ _ _ ?_
      on_goal 4 => iterate 3 refine zeroOut_cons _ _ _ _ _ ?_
      on_goal 5 => iterate 4 refine zeroOut_cons _ _ _ _ _ ?_
      on_goal 6 => iterate 5 refine zeroOut_cons _ _ _ _ _ ?_
      all_goals first | exact zeroOut_whole _ _ _ | exact hd hi
    iexists _; isplitr
    swap
    · iexists _; isplitr
      swap; · iexact H5
      ipureintro; rfl
    ipureintro
    iterate 6 refine zeroOut_cons _ _ _ _ _ ?_
    first | exact zeroOut_whole _ _ _ | exact hd hi

end Cert.KernelIdeal.Place
end
-- ==== Proof.PlaceRegionI.lean ====
/- For the idealized program. The placing kernel (the second custom call) as a pipeline: its proof data, at any contents `V` of the arrays when the region is entered
   and any contents `a` of the two prefetched tables, and the body's obligation at every grid point. -/
module

public import proofs.«01_k».proof.Proof.PlaceI
public import Idealize.ShloMosaic.Lib.Pipeline.RegionsLoop

@[expose] public section

set_option maxRecDepth 16384

noncomputable section

namespace Cert.KernelIdeal.Place

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the arrays when the region is entered, and those of the tables
variable (V : (c : Dev nD) → (b : Ref sig .tc) → Buf (Elt F) ((c : Thread nD τ).loc b)) (a : (pcfg1 (F := F)).Adm)

/-- The table of columns. -/
abbrev tabX : Vec F S276 .i32 := (Memref.whole main_v14).view.read (Elt F) (a.1 0)
/-- The table of rows. -/
abbrev tabY : Vec F S276 .i32 := (Memref.whole main_v16).view.read (Elt F) (a.1 1)

/-- The block of window `w` at point `t`, read off the array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The block of heatmaps that the body reads at point `t`. -/
abbrev crops (c : Dev nD) (t : Fin (cfg1 a).N) : Vec F S6x160x160 .f32 := iblk1 V a c 0 t

/-- What the body leaves in the output's buffer at point `t`. -/
abbrev outBlk (c : Dev nD) (t : Fin (cfg1 a).N) : Vec F S6x512x640 .f32 :=
  placed (word (tabX a) (grid1.coords t)) (word (tabY a) (grid1.coords t)) (crops V a c t)

/-- What rides through the points: the other kernel's staging buffers, the scratch band (zero outside its corner once a point has run), the
    generator register and the two tables. -/
def inv (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f))
    ∗ (∃ d : Vec F S168x640 .f32, ⌜n ≠ 0 → ZeroOut d⌝ ∗ owns (c : Thread nD τ) (Memref.whole cc1_scratch0) fullShare d)
    ∗ (∃ r, prngReg c r)
    ∗ owns (c : Thread nD τ) (Memref.whole main_v14) fullShare (tabX a)
    ∗ owns (c : Thread nD τ) (Memref.whole main_v16) fullShare (tabY a))

/-- The placing pipeline's proof data: arrays as found, each block's canvases as placed from the input block, nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => outBlk V a c t
  Φ t := inv a c t.val
  q _ := fullShare
  owed _ := 0

/-- The arrays as the region finds them. -/
theorem A_eq1 (c : Dev nD) (w : Fin (cfg1 a).W) : (dat1 V a c).A w = V c (Pipeline.arrRef spec1 w) := by
  dsimp only [dat1]
/-- What each window's buffer holds after the body. -/
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = outBlk V a c t := by dsimp only [dat1]; rfl

/-- The input block is in place before the body. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The first point is the one that the kernel's text takes as the first. -/
theorem first_at : ∀ t : Fin grid1.N, t.val = 0 → atFirst (grid1.coords t) := by decide +kernel

/-- The current staging buffers at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The body at point `t`, on what the pipeline calls it with. -/
abbrev bodyAt1 (t : Fin (cfg1 a).N) : Prog (TpuEff nD τ sig (Elt F) Λ₀ .tc) PUnit :=
  cc1__place_body (grid1.coords t) (Memref.whole main_v14) (Memref.isWhole_whole _) (Memref.whole main_v16) (Memref.isWhole_whole _)
    (st1_0 a t) (hstage1_0 (((cfg1 a).slots t 0).cast nbuf1_0)) (st1_1 a t) (hstage1_1 (((cfg1 a).slots t 1).cast nbuf1_1))
    (Memref.whole cc1_scratch0) (Memref.isWhole_whole _)

/-- What the body is called with at a point. -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d)))
/-- What the body returns at a point. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t))

/-- The body at any point, the rows' table in range. -/
theorem sound_body1 (hT : ∀ y, InRange (tabY a y)) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.castSucc = inv a c t.val from rfl, show (dat1 V a c).Φ t.succ = inv a c (t.val + 1) from rfl,
    show (dat1 V a c).owesAt () t.succ = (dat1 V a c).owesAt () t.castSucc from rfl,
    after1_0, after1_1]
  unfold inv
  iintro ⟨⟨Hs, ⟨%d, %hd, Hd⟩, Hp, HX, HY⟩, Ho, ⟨%d0, H0⟩, ⟨%d1, H1⟩⟩
  iapply (body_run c Set.univ (grid1.coords t) _ _ _ _ _ _ _ _ _ _ (tabX a) (tabY a) (iblk1 V a c 0 t) d
    (fun h => hd fun e => h (first_at t e)) hT _)
  isplitl [HX]; · iexact HX
  isplitl [HY]; · iexact HY
  isplitl [H0]; · iexact H0
  isplitl [H1]; · iexists _; iexact H1
  isplitl [Hd]; · iexact Hd
  iintro ⟨HX, HY, H0, H1, ⟨%d', %hd', Hd⟩⟩
  isplitl [Hs Hd Hp HX HY]
  · isplitl [Hs]; · iexact Hs
    isplitl [Hd]
    · iexists d'; isplitr; · ipureintro; exact fun _ => hd'
      iexact Hd
    isplitl [Hp]; · iexact Hp
    isplitl [HX]; · iexact HX
    iexact HY
  isplitl [Ho]; · iexact Ho
  isplitl [H0]; · iexact H0
  iexact H1

/-- The body's row in the table of bodies. -/
theorem defs₀_row1 (t : Fin (cfg1 a).N) :
    defs₀ (F := F) .tc (cfg1 a).body ((cfg1 a).bodyArgs t ((cfg1 a).slots t)) = bodyAt1 a t := by
  unfold defs₀; rw [Defs.onTc_tc]; rfl

/-- The body's obligation at every point. -/
theorem body_obligation1 (hT : ∀ y, InRange (tabY a y)) (c : Dev nD) :
    BodyObligation (dat1 (F := F) V a c) (defs₀ (F := F)) Variants.none () Set.univ := fun t => by
  rw [bigSep_W1, bigSep_W1, defs₀_row1]
  exact triple_restated (sound_body1 V a hT c t) rfl .rfl fun _ => .rfl

/-- The two tables held, as the body owns them. -/
theorem tables_eq (c : Dev nD) : (Pipeline.prefHeld pre1 c (fun _ => fullShare) a.1 : sProp 𝕄)
    = iprop(owns (c : Thread nD τ) (Memref.whole main_v14) fullShare (tabX a) ∗ owns (c : Thread nD τ) (Memref.whole main_v16) fullShare (tabY a)) := by
  unfold Pipeline.prefHeld
  rw [bigSep_univ_eq_bigSepL [(0 : Fin pre1.K), (1 : Fin pre1.K)] (by decide) (by decide), bigSepL_cons_cons, bigSepL_singleton]
  exact (congrArg₂ (fun P Q : sProp 𝕄 => iprop(P ∗ Q)) (owns_whole (c : Thread nD τ) main_v14 fullShare (tabX a)) (owns_whole (c : Thread nD τ) main_v16 fullShare (tabY a))).symm

/-- What the region finds beside the arrays is the invariant before the first point. -/
theorem inv_start (c : Dev nD) :
    iprop(iprop(Pipeline.scopedRest spec1 c ∗ (∃ r, prngReg c r)) ∗ Pipeline.prefHeld pre1 c (fun _ => fullShare) a.1) ⊢ (inv a c 0 : sProp 𝕄) := by
  rw [scopedRest1_eq, tables_eq]
  unfold inv
  iintro ⟨⟨⟨S1, S2, S3, S4, S5, S6, ⟨%f, S7⟩⟩, Hp⟩, HX, HY⟩
  isplitl [S1 S2 S3 S4 S5 S6]
  · isplitl [S1]; · iexact S1
    isplitl [S2]; · iexact S2
    isplitl [S3]; · iexact S3
    isplitl [S4]; · iexact S4
    isplitl [S5]; · iexact S5
    iexact S6
  isplitl [S7]
  · iexists f; isplitr; · ipureintro; exact fun h => absurd rfl h
    iapply (Entails.of_eq (owns_whole (c : Thread nD τ) cc1_scratch0 fullShare f).symm); iexact S7
  isplitl [Hp]; · iexact Hp
  isplitl [HX]; · iexact HX
  iexact HY

/-- The invariant after the last point gives back what the region found. -/
theorem inv_end (c : Dev nD) (n : ℕ) :
    (inv a c n : sProp 𝕄) ⊢ iprop(iprop(Pipeline.scopedRest spec1 c ∗ (∃ r, prngReg c r)) ∗ Pipeline.prefHeld pre1 c (fun _ => fullShare) a.1) := by
  rw [scopedRest1_eq, tables_eq]
  unfold inv
  iintro ⟨⟨S1, S2, S3, S4, S5, S6⟩, ⟨%d, -, S7⟩, Hp, HX, HY⟩
  isplitl [S1 S2 S3 S4 S5 S6 S7 Hp]
  · isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexists d
      iapply (Entails.of_eq (owns_whole (c : Thread nD τ) cc1_scratch0 fullShare d)); iexact S7
    iexact Hp
  isplitl [HX]; · iexact HX
  iexact HY

end Cert.KernelIdeal.Place
end
-- ==== Proof.RunI.lean ====
/- For the idealized program. The whole program: @main's eight items (five host stretches, the two kernels, the closing host stretch) as segments over one thread state,
   "every unscoped buffer of the core held at the contents reached so far", and the launch. The placing kernel is run on tables that the
   program computes itself; that they lie in range is the hypothesis `Tables`. -/
module

public import proofs.«01_k».proof.Proof.SoftI
public import proofs.«01_k».proof.Proof.PlaceRegionI
public import proofs.«01_k».proof.Proof.Gen.KernelIdeal.Regions
public import Idealize.ShloMosaic.Lib.Pipeline.RegionArraysTS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one device. -/
abbrev dev0 : Dev nD := 0

/-- The tables' contents, the same on every core: there is one device. -/
def tabs : (pcfg1 (F := F)).Adm := ⟨fun k => V5 m dev0 (Proc.devRef .tc (pre1.ref k)), trivial⟩

/-- The two pipelines' table contents: the first has no table. -/
def adm : (p : Fin 2) → (pcfgs (F := F) p).Adm
  | ⟨0, _⟩ => cfg0.toPCfg_adm
  | ⟨1, _⟩ => tabs m

/-- The contents at a core's references before the first kernel. -/
abbrev at5 (c : Dev nD) (b : Ref sig .tc) : Buf (Elt F) ((c : Thread nD τ).loc b) := V5 m c (Proc.devRef .tc b)
/-- Core `c`'s unscoped buffers after the first kernel. -/
def W6 (c : Dev nD) : Valuation τ sig (Elt F) := Pipeline.afterRegion (cfg := cfg0) (Soft.dat0 (at5 m) c) (V5 m c)
/-- The contents at a core's references before the second kernel. -/
abbrev at6 (c : Dev nD) (b : Ref sig .tc) : Buf (Elt F) ((c : Thread nD τ).loc b) := W6 m c (Proc.devRef .tc b)
/-- Core `c`'s unscoped buffers after the second kernel. -/
def W7 (c : Dev nD) : Valuation τ sig (Elt F) := Pipeline.afterRegion (Place.dat1 (at6 m) (tabs m) c) (W6 m c)
/-- Core `c`'s unscoped buffers at the end. -/
def W8 (c : Dev nD) : Valuation τ sig (Elt F) := StableHlo.after hostOps2 (W7 m c)

/-- The first kernel writes its two results alone. -/
theorem W6_of (c : Dev nD) (r : Ref sig .tc) (h : ∀ w : Fin 3, Pipeline.arrRef spec0 w = r → (spec0 w).isOut = false) :
    W6 m c (Proc.devRef .tc r) = V5 m c (Proc.devRef .tc r) :=
  Pipeline.afterRegion_keeps (cfg := cfg0) (Soft.dat0 (at5 m) c) (V5 m c) (launch0 (F := F)).win.arr_inj (Soft.A_eq0 (at5 m) c) r h

/-- The second kernel writes its result alone. -/
theorem W7_of (c : Dev nD) (r : Ref sig .tc) (h : ∀ w : Fin 2, Pipeline.arrRef spec1 w = r → (spec1 w).isOut = false) :
    W7 m c (Proc.devRef .tc r) = W6 m c (Proc.devRef .tc r) :=
  Pipeline.afterRegion_keeps (Place.dat1 (at6 m) (tabs m) c) (W6 m c) (launch1 (F := F)).win.arr_inj (Place.A_eq1 (at6 m) (tabs m) c) r h

/-- The tables are in range: every entry of the rows' table is a row that the band fits at. -/
def Tables : Prop := ∀ y, Place.InRange (Place.tabY (tabs m) y)

/-- The two pipelines' proof data, by region. -/
def pdats : (p : Fin 2) → (c : Dev nD) → Dat τ (Elt F) Unit ℕ (UR sig nD τ) ℕ (Pipeline.pin (pcfgs (F := F)) (adm m) p) c
  | ⟨0, _⟩, c => Soft.dat0 (at5 m) c
  | ⟨1, _⟩, c => Place.dat1 (at6 m) (tabs m) c

/-- No body runs a loop. -/
abbrev 𝒱₀ : Variants := Variants.none
/-- One level index on the TensorCores, none elsewhere; every level is zero. -/
abbrev L : GSem nD τ sig → Finset Unit := fun g => if g.1.2 = .tc then {()} else ∅
abbrev lv : GSem nD τ sig → Unit → ℕ := fun _ _ => 0

/-- What rides through the segments beside the buffers: the core owing nothing and its generator register. -/
def R (c : Dev nD) : sProp 𝕄 := iprop((∃ W, owes (c : Thread nD τ) (0 : CellTallies nD τ sig Unit) W) ∗ (∃ r, prngReg c r) ∗ emp)

/-- The staging waits sit at the one level index, and nothing is owed. -/
theorem cut (p : Fin 2) : Pipeline.LevelCut (nD := nD) (τ := τ) (pcfgs (F := F)) (adm m) () L lv p (fun _ => 0) (fun _ => 0) where
  hι c w s := by simp [L]
  hιb c w s := le_refl _
  hD c g i h := absurd h (Nat.lt_irrefl 0)

/-- The tables that the second kernel finds are the ones that the host computed. -/
theorem tab_kept (c : Dev nD) (k : Fin pre1.K) : (tabs m).1 k = W6 m c (Proc.devRef .tc (pre1.ref k)) := by
  obtain rfl : c = dev0 := Subsingleton.elim _ _
  refine (W6_of m dev0 (pre1.ref k) ?_).symm
  revert k; decide

set_option backward.isDefEq.respectTransparency.types false in
/-- The first kernel's region: entered from every unscoped buffer as the host leaves it. -/
def reg0 : RegionSeg (pcfgs (F := F)) (adm m) (pdats m) () defs₀ 𝒱₀ L lv 0 :=
  RegionSeg.ofHeldInT (pcfgs (F := F)) (adm m) (pdats m) () defs₀ 𝒱₀ L lv 0 (fun _ => 0) (Pipeline.ucRefs τ sig)
    (fun c => iprop(∃ r, prngReg c r)) (fun c => iprop(∃ r, prngReg c r)) launch0
    (fun c => (Soft.body_obligation0 (at5 m) c).loose) (fun _ _ => rfl) (fun _ => rfl)
    (fun c => (pdats m 0 c).share_full fun _ => rfl)
    (fun c => by
      rw [show (pdats m 0 c).Φ 0 = Pipeline.ΦA spec0 c from rfl]; unfold Pipeline.ΦA
      iintro ⟨H, -⟩; iexact H)
    (fun c => by
      rw [show (pdats m 0 c).Φ (Fin.last _) = Pipeline.ΦA spec0 c from rfl]; unfold Pipeline.ΦA Pipeline.tablesAt Pipeline.prefHeld
      rw [show (Finset.univ : Finset (Fin ((pcfgs (F := F) 0).pre.K))) = ∅ from rfl, BI.bigSep_empty]
      iintro H; isplitl [H]; · iexact H
      iempintro)
    (fun _ => 0) (cut m 0) (fun _ => iprop(emp)) (V5 m) (fun c w => Soft.A_eq0 (at5 m) c w) (fun c k => k.elim0)

set_option backward.isDefEq.respectTransparency.types false in
/-- The second kernel's region, its tables in range. -/
def reg1 (hT : Tables m) : RegionSeg (pcfgs (F := F)) (adm m) (pdats m) () defs₀ 𝒱₀ L lv 1 :=
  RegionSeg.ofHeldInT (pcfgs (F := F)) (adm m) (pdats m) () defs₀ 𝒱₀ L lv 1 (fun _ => 0) (Pipeline.ucRefs τ sig)
    (fun c => iprop(∃ r, prngReg c r)) (fun c => iprop(∃ r, prngReg c r)) launch1
    (fun c => (Place.body_obligation1 (at6 m) (tabs m) hT c).loose) (fun _ _ => rfl) (fun _ => rfl)
    (fun c => (pdats m 1 c).share_full fun _ => rfl)
    (fun c => Place.inv_start (tabs m) c) (fun c => Place.inv_end (tabs m) c _)
    (fun _ => 0) (cut m 1) (fun _ => iprop(emp)) (W6 m) (fun c w => Place.A_eq1 (at6 m) (tabs m) c w) (fun c k => tab_kept m c k)

/-- @main's items as segments. -/
def segs (hT : Tables m) : List (Seg (pcfgs (F := F)) (adm m) (pdats m) () defs₀ 𝒱₀ L lv) :=
  [.host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R), .region (reg0 m), .region (reg1 m hT),
    .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W7 m) R)]

/-- No array and no table is scoped. -/
theorem arr_unscoped0 : ∀ w, (Pipeline.arrRef spec0 w).isScoped = false := by decide
theorem arr_unscoped1 : ∀ w, (Pipeline.arrRef spec1 w).isScoped = false := by decide
theorem tab_unscoped0 : ∀ k, ((pcfgs (F := F) 0).pre.ref k).isScoped = false := fun k => k.elim0
theorem tab_unscoped1 : ∀ k, (pre1.ref k).isScoped = false := by decide

set_option backward.isDefEq.respectTransparency.types false in
/-- The links before, between and after the regions. -/
theorem into0 (c : Dev nD) : iprop(StableHlo.held (c : Thread nD τ) (Pipeline.ucRefs τ sig) (V5 m c) ∗ R c) ⊢ (reg0 m).pre c := by
  unfold reg0 R
  exact RegionSeg.ofHeldInT_pre (D := fun _ => 0) (S := Pipeline.ucRefs τ sig) (X := fun c => iprop(∃ r, prngReg c r)) (Y := fun c => iprop(∃ r, prngReg c r)) (R := fun _ => iprop(emp)) (pcs := pcfgs (F := F)) (a := adm m) (pdats := pdats m) (p := 0) (W := V5 m) (Pipeline.arrRefs_sub_ucRefs _ arr_unscoped0) (Pipeline.tblRefs_sub_ucRefs _ (tab_unscoped0 (F := F))) c
set_option backward.isDefEq.respectTransparency.types false in
theorem from0 (c : Dev nD) : ((reg0 m).post c : sProp 𝕄) ⊢ iprop(StableHlo.held (c : Thread nD τ) (Pipeline.ucRefs τ sig) (W6 m c) ∗ R c) := by
  rw [show W6 m c = Pipeline.afterRegion (pdats m 0 c) (V5 m c) from rfl]
  unfold reg0 R
  exact RegionSeg.ofHeldInT_post (pcs := pcfgs (F := F)) (a := adm m) (pdats := pdats m) (p := 0) (W := V5 m) (Pipeline.arrRefs_sub_ucRefs _ arr_unscoped0) (Pipeline.tblRefs_sub_ucRefs _ (tab_unscoped0 (F := F))) c
set_option backward.isDefEq.respectTransparency.types false in
theorem into1 (hT : Tables m) (c : Dev nD) :
    iprop(StableHlo.held (c : Thread nD τ) (Pipeline.ucRefs τ sig) (W6 m c) ∗ R c) ⊢ (reg1 m hT).pre c := by
  unfold reg1 R
  exact RegionSeg.ofHeldInT_pre (D := fun _ => 0) (S := Pipeline.ucRefs τ sig) (X := fun c => iprop(∃ r, prngReg c r)) (Y := fun c => iprop(∃ r, prngReg c r)) (R := fun _ => iprop(emp)) (pcs := pcfgs (F := F)) (a := adm m) (pdats := pdats m) (p := 1) (W := W6 m) (Pipeline.arrRefs_sub_ucRefs _ arr_unscoped1) (Pipeline.tblRefs_sub_ucRefs _ tab_unscoped1) c
set_option backward.isDefEq.respectTransparency.types false in
theorem from1 (hT : Tables m) (c : Dev nD) :
    ((reg1 m hT).post c : sProp 𝕄) ⊢ iprop(StableHlo.held (c : Thread nD τ) (Pipeline.ucRefs τ sig) (W7 m c) ∗ R c) := by
  rw [show W7 m c = Pipeline.afterRegion (pdats m 1 c) (W6 m c) from rfl]
  unfold reg1 R
  exact RegionSeg.ofHeldInT_post (pcs := pcfgs (F := F)) (a := adm m) (pdats := pdats m) (p := 1) (W := W6 m) (Pipeline.arrRefs_sub_ucRefs _ arr_unscoped1) (Pipeline.tblRefs_sub_ucRefs _ tab_unscoped1) c

set_option backward.isDefEq.respectTransparency.types false in
/-- The run: with the tables in range, every weakly fair execution of @main terminates, nothing faulting; at the end every unscoped buffer of
    every core has the contents `W8`, and every semaphore counter is zero. -/
theorem run (hT : Tables m) : θ_run defs (onTc (τ := τ) (main (F := F))) ⟨m, fun _ => 0, ρ⟩ (fun r =>
      (∀ c : Dev nD, ∀ b ∈ Pipeline.ucRefs τ sig, r.2.mem ((c : Thread nD τ).1, b) = W8 m c b) ∧ r.2.sem = fun _ => 0) := by
  refine Pipeline.θ_run_regions_kit_dev_sems (pcfgs (F := F)) (adm m) (pdats m) () (cellOf_inj (adm m)) emb₁ defs₀ 𝒱₀ L lv m ρ main
    (fun _ => segs m hT)
    (fun c Q => by
      rewrite [main_chain c, Seg.run_eq_chain,
        show (segs m hT).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (O₀ := 0) (hL := fun g h => if_neg h) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W8 m c))
    (hch := fun c => ⟨.rfl, .rfl, .rfl, .rfl, .rfl, into0 m c, (from0 m c).trans (into1 m hT c), from1 m hT c,
      sep_mono .rfl (by unfold R; iintro ⟨HO, -⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      unfold R
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c : Thread nD τ).1, b) = W8 m c b)
    (hfin := fun c s' => by
      unfold StableHlo.held
      iintro ⟨Hh, HSI⟩
      imodintro
      iapply (pointsTo_read_all (Pipeline.ucRefs τ sig) (fun b => ((c : Thread nD τ).1, b)) (W8 m c) s')
      isplitl [Hh] <;> iassumption)
    (hQ := fun _ h hz => ⟨h, funext fun g => hz g (.inr (regions_no_unscoped g.2))⟩)

/-- An unscoped reference of a TensorCore. -/
theorem mem_uc (b : Ref sig .tc) (h : b.isScoped = false) : (Proc.devRef .tc b : DevRef τ sig) ∈ Pipeline.ucRefs τ sig :=
  Finset.mem_filter.mpr ⟨StableHlo.devRef_mem_tcRefs b, fun h' => Bool.false_ne_true (h.symm.trans h')⟩

end Cert.KernelIdeal.Run
end
-- ==== Proof.HostI.lean ====
/- For the idealized program. The host operations before the kernels: what the two tables and the two kernels' input arrays hold, as functions of the arguments; and that
   centres on the canvas give tables in range. -/
module

public import proofs.«01_k».proof.Proof.RunI
public import Idealize.ShloMosaic.Lib.Claim
public import Idealize.ShloMosaic.Lib.StableHlo.ReadAt
public import Idealize.ShloMosaic.Lib.Pipeline.Value

@[expose] public section

set_option maxRecDepth 16384

noncomputable section

namespace Cert.KernelIdeal.Host

open Idealize.ShloMosaic Idealize.ShloMosaic.TcCoe Idealize.ShloMosaic.Tactic
open Idealize.ShloMosaic.ValueIdx
open Cert.KernelIdeal.Gen

variable {F : FTy → Type} [FloatOps F]

/-- The sign of a word, as a word. -/
def signWord (x : BitVec 32) : BitVec 32 := if x = 0 then 0 else if x.msb then -1 else 1

/-- Half a coordinate, rounded down, as the host computes it word by word. -/
def halfWord (x : BitVec 32) : BitVec 32 :=
  Scalar.select (IntOp.andi (IntOp.cmpi .ne (signWord x) (signWord 2#32))
      (IntOp.cmpi .ne (IntOp.remsi .host x 2#32) 0#32)) (IntOp.subi (IntOp.divsi .host x 2#32) 1#32) (IntOp.divsi .host x 2#32)

/-- Half a coordinate less half the crop's edge: where the crop's corner falls. -/
def cornerWord (x : BitVec 32) : BitVec 32 := IntOp.subi (halfWord x) 80#32

/-- The corner of a centre coordinate between 160 and 1119. -/
theorem cornerWord_eq : ∀ n : Fin 960, cornerWord (BitVec.ofNat 32 (160 + n.val)) = BitVec.ofNat 32 (n.val / 2) := by decide +kernel

variable (W : Valuation τ sig (Elt F))

/-- The two calls of the host's floor division, from any contents with the divisor at two. -/
theorem half_x (h : W main_c = constantI S_ 32 2#32) : StableHlo.after hostOps0_1 W main_v3 = fun i => halfWord (W main_v2 i) := by
  after_results
  simp -implicitDefEqProofs only [StableHlo.TRef.toBuf, StableHlo.TRef.ofBuf, cast_cast, cast_eq]
  rw [h]
  rfl

theorem half_y (h : W main_c_1 = constantI S_ 32 2#32) : StableHlo.after hostOps0_3 W main_v9 = fun i => halfWord (W main_v8 i) := by
  after_results
  simp -implicitDefEqProofs only [StableHlo.TRef.toBuf, StableHlo.TRef.ofBuf, cast_cast, cast_eq]
  rw [h]
  rfl

/-- Twelve words, each repeated twenty-three times. -/
def spread (v : Vec F S2x6 .i32) : Vec F S276 .i32 :=
  shapeCast S276 (broadcastInDim S12x23 ![0] bcast_S12_S12x23_0 (shapeCast S12 v shapeCasts_S2x6_S12)) shapeCasts_S12x23_S276

/-- Coordinate `a` of every centre. -/
def coordX (v : Vec F S2x6x2 .i32) : Vec F S2x6 .i32 := shapeCast S2x6 (extractStridedSlice S2x6x1 ![0, 0, 0] v slices_S2x6x2_S2x6x1_0_0_0) shapeCasts_S2x6x1_S2x6
def coordY (v : Vec F S2x6x2 .i32) : Vec F S2x6 .i32 := shapeCast S2x6 (extractStridedSlice S2x6x1 ![0, 0, 1] v slices_S2x6x2_S2x6x1_0_0_1) shapeCasts_S2x6x1_S2x6

/-- What each stretch of the host's operations leaves, from any contents before it. -/
theorem ops0_v2 : StableHlo.after hostOps0 W main_v2 = coordX (W main_arg3) := by after_results; rfl
theorem ops0_c : StableHlo.after hostOps0 W main_c = constantI S_ 32 2#32 := by after_results
theorem ops0_v0 : StableHlo.after hostOps0 W main_v0 = shapeCast S276x160x160 (W main_arg0) shapeCasts_S2x6x23x160x160_S276x160x160 := by after_results; rfl
theorem ops2_v6 : StableHlo.after hostOps0_2 W main_v6 = shapeCast S12 (fun i => IntOp.subi (W main_v3 i) 80#32 : Vec F S2x6 .i32) shapeCasts_S2x6_S12 := by
  after_results; rfl
theorem ops2_v8 : StableHlo.after hostOps0_2 W main_v8 = coordY (W main_arg3) := by after_results; rfl
theorem ops2_c1 : StableHlo.after hostOps0_2 W main_c_1 = constantI S_ 32 2#32 := by after_results
theorem ops4_v14 : StableHlo.after hostOps0_4 W main_v14 = shapeCast S276 (broadcastInDim S12x23 ![0] bcast_S12_S12x23_0 (W main_v6 : Vec F S12 .i32)) shapeCasts_S12x23_S276 := by
  after_results; rfl
theorem ops4_v16 : StableHlo.after hostOps0_4 W main_v16 = spread (fun i => IntOp.subi (W main_v9 i) 80#32) := by after_results; rfl
theorem ops4_v17 : StableHlo.after hostOps0_4 W main_v17 = shapeCast S46x50x50x50 (W main_arg1) shapeCasts_S2x23x50x50x50_S46x50x50x50 := by after_results; rfl

variable (m : (ℓ : Loc nD τ sig) → Buf (Elt F) ℓ) (c : Dev nD)

/-- The table of columns: every centre's corner column, once for each joint. -/
theorem tableX : V5 m c main_v14 = spread fun i => cornerWord (coordX (m ((c : Thread nD τ).loc main_arg3)) i) := by
  rw [show V5 m c main_v14 = _ from ops4_v14 (V4 m c), V4_of m c main_v6 (by decide), show V3 m c main_v6 = _ from ops2_v6 (V2 m c),
    show V2 m c main_v3 = _ from half_x (V1 m c) (ops0_c _), show V1 m c main_v2 = _ from ops0_v2 (V0 m c)]
  rfl

/-- The table of rows. -/
theorem tableY : V5 m c main_v16 = spread fun i => cornerWord (coordY (m ((c : Thread nD τ).loc main_arg3)) i) := by
  rw [show V5 m c main_v16 = _ from ops4_v16 (V4 m c), show V4 m c main_v9 = _ from half_y (V3 m c) (ops2_c1 _), show V3 m c main_v8 = _ from ops2_v8 (V2 m c),
    V2_of m c main_arg3 (by decide), V1_of m c main_arg3 (by decide)]
  rfl

/-- The crops, laid out for the placing kernel. -/
theorem crops_eq : V5 m c main_v0 = shapeCast S276x160x160 (m ((c : Thread nD τ).loc main_arg0)) shapeCasts_S2x6x23x160x160_S276x160x160 := by
  rw [V5_of m c main_v0 (by decide), V4_of m c main_v0 (by decide), V3_of m c main_v0 (by decide), V2_of m c main_v0 (by decide), show V1 m c main_v0 = _ from ops0_v0 (V0 m c)]

/-- The volumes, laid out for the first kernel. -/
theorem vols_eq : V5 m c main_v17 = shapeCast S46x50x50x50 (m ((c : Thread nD τ).loc main_arg1)) shapeCasts_S2x23x50x50x50_S46x50x50x50 := by
  rw [show V5 m c main_v17 = _ from ops4_v17 (V4 m c), V4_of m c main_arg1 (by decide), V3_of m c main_arg1 (by decide), V2_of m c main_arg1 (by decide), V1_of m c main_arg1 (by decide)]

/-- A coordinate of a centre, at an index. -/
theorem coordX_apply (v : Vec F S2x6x2 .i32) (b : Fin 2) (k : Fin 6) : coordX v (ValueIdx.ix2 b k) = v (ValueIdx.ix3 b k (0 : Fin 2)) := by
  unfold coordX
  refine (shapeCast_apply _ _ (ValueIdx.ix2 b k) (ValueIdx.ix3 b k (0 : Fin 1)) ?_).trans ?_
  · rw [Shape.rowMajor_val_three, Shape.rowMajor_val_two]; show (b.val * 6 + k.val) * 1 + 0 = b.val * 6 + k.val; omega
  · exact extractStridedSlice_apply _ _ _ _ (ValueIdx.ix3 b k (0 : Fin 2)) fun a => match a with
      | ⟨0, _⟩ => by show b.val = 0 + b.val; omega
      | ⟨1, _⟩ => by show k.val = 0 + k.val; omega
      | ⟨2, _⟩ => rfl
theorem coordY_apply (v : Vec F S2x6x2 .i32) (b : Fin 2) (k : Fin 6) : coordY v (ValueIdx.ix2 b k) = v (ValueIdx.ix3 b k (1 : Fin 2)) := by
  unfold coordY
  refine (shapeCast_apply _ _ (ValueIdx.ix2 b k) (ValueIdx.ix3 b k (0 : Fin 1)) ?_).trans ?_
  · rw [Shape.rowMajor_val_three, Shape.rowMajor_val_two]; show (b.val * 6 + k.val) * 1 + 0 = b.val * 6 + k.val; omega
  · exact extractStridedSlice_apply _ _ _ _ (ValueIdx.ix3 b k (1 : Fin 2)) fun a => match a with
      | ⟨0, _⟩ => by show b.val = 0 + b.val; omega
      | ⟨1, _⟩ => by show k.val = 0 + k.val; omega
      | ⟨2, _⟩ => rfl

/-- The word at position `(6 b + k) 23 + j` of a spread table is that of centre `(b, k)`. -/
theorem spread_apply (v : Vec F S2x6 .i32) (b : Fin 2) (k : Fin 6) (j : Fin 23) (n : Fin 276) (hn : n.val = (b.val * 6 + k.val) * 23 + j.val) :
    spread v (ValueIdx.ix1 n) = v (ValueIdx.ix2 b k) := by
  unfold spread
  refine (shapeCast_apply _ _ (ValueIdx.ix1 n) (ValueIdx.ix2 (⟨b.val * 6 + k.val, by omega⟩ : Fin 12) j) ?_).trans ?_
  · rw [Shape.rowMajor_val_two, Shape.rowMajor_val_one]; exact hn.symm
  refine (broadcastInDim_apply _ _ _ _ (ValueIdx.ix1 (⟨b.val * 6 + k.val, by omega⟩ : Fin 12)) fun a => match a with | ⟨0, _⟩ => rfl).trans ?_
  refine shapeCast_apply _ _ _ (ValueIdx.ix2 b k) ?_
  rw [Shape.rowMajor_val_two, Shape.rowMajor_val_one]; rfl

end Cert.KernelIdeal.Host
end
-- ==== Proof.FrameI.lean ====
/- For the idealized program. From centres on the canvas: the placing kernel's tables are in range, so the program runs; and it leaves its arguments as it found them. -/
module

public import proofs.«01_k».proof.Proof.Canvas
public import proofs.«01_k».proof.Proof.HostI

@[expose] public section

set_option maxRecDepth 16384

noncomputable section

namespace Cert.KernelIdeal.Frame

open Idealize.ShloMosaic Idealize.ShloMosaic.TcCoe Idealize.ShloMosaic.Tactic Idealize.SL.Sem
open Cert.KernelIdeal.Gen Cert.KernelIdeal.Run Cert.KernelIdeal.Host

variable {F : FTy → Type} [FloatOps F]

/-- Every centre lies on the canvas, far enough from its edges. -/
def OnCanvas (v : Vec F S2x6x2 .i32) : Prop := ∀ (b : Fin 2) (k : Fin 6),
  (∃ n : Fin 960, v (ValueIdx.ix3 b k (0 : Fin 2)) = BitVec.ofNat 32 (160 + n.val)) ∧
    ∃ n : Fin 704, v (ValueIdx.ix3 b k (1 : Fin 2)) = BitVec.ofNat 32 (160 + n.val)

/-- Rows up to 351 are rows that the band fits at. -/
theorem inRange : ∀ n : Fin 352, Place.InRange (BitVec.ofNat 32 n.val) := by unfold Place.InRange; decide +kernel

variable (m : (ℓ : Loc nD τ sig) → Buf (Elt F) ℓ) (ρ : Dev nD → PrngReg)

/-- Where crop `n` comes from: item `b`, camera `k`, joint `j`. -/
theorem split (n : Fin 276) : ∃ (b : Fin 2) (k : Fin 6) (j : Fin 23), n.val = (b.val * 6 + k.val) * 23 + j.val :=
  ⟨⟨n.val / 138, by omega⟩, ⟨n.val / 23 % 6, by omega⟩, ⟨n.val % 23, by omega⟩, by show n.val = (n.val / 138 * 6 + n.val / 23 % 6) * 23 + n.val % 23; omega⟩

/-- An entry of the rows' table. -/
theorem tabY_apply (b : Fin 2) (k : Fin 6) (j : Fin 23) (n : Fin 276) (hn : n.val = (b.val * 6 + k.val) * 23 + j.val) :
    Place.tabY (tabs m) (ValueIdx.ix1 n) = cornerWord (m ((dev0 : Thread nD τ).loc main_arg3) (ValueIdx.ix3 b k (1 : Fin 2))) := by
  refine (congrFun (tableY m dev0) (ValueIdx.ix1 n)).trans ?_
  rw [spread_apply _ b k j n hn, coordY_apply]

/-- An entry of the columns' table. -/
theorem tabX_apply (b : Fin 2) (k : Fin 6) (j : Fin 23) (n : Fin 276) (hn : n.val = (b.val * 6 + k.val) * 23 + j.val) :
    Place.tabX (tabs m) (ValueIdx.ix1 n) = cornerWord (m ((dev0 : Thread nD τ).loc main_arg3) (ValueIdx.ix3 b k (0 : Fin 2))) := by
  refine (congrFun (tableX m dev0) (ValueIdx.ix1 n)).trans ?_
  rw [spread_apply _ b k j n hn, coordX_apply]

/-- Centres on the canvas put the tables in range. -/
theorem tables (h : OnCanvas (m ((dev0 : Thread nD τ).loc main_arg3))) : Tables m := by
  intro y
  obtain ⟨b, k, j, hn⟩ := split (y 0)
  obtain ⟨q, hq⟩ := (h b k).2
  have e : y = ValueIdx.ix1 (y 0) := funext fun a => match a with | ⟨0, _⟩ => rfl
  have e' : Place.tabY (tabs m) y = BitVec.ofNat 32 (q.val / 2) :=
    (congrArg (Place.tabY (tabs m)) e).trans ((tabY_apply m b k j (y 0) hn).trans ((congrArg cornerWord hq).trans (cornerWord_eq ⟨q.val, by omega⟩)))
  rw [e']
  exact inRange ⟨q.val / 2, by omega⟩

/-- An argument is nobody's result. -/
theorem W8_arg (c : Dev nD) (r : Ref sig .tc) (h : r = main_arg0 ∨ r = main_arg1 ∨ r = main_arg2 ∨ r = main_arg3) :
    W8 m c (Proc.devRef .tc r) = m ((c : Thread nD τ).loc r) := by
  have k7 : W7 m c (Proc.devRef .tc r) = W6 m c (Proc.devRef .tc r) := W7_of m c r (by rcases h with rfl | rfl | rfl | rfl <;> decide)
  have k6 : W6 m c (Proc.devRef .tc r) = V5 m c (Proc.devRef .tc r) := W6_of m c r (by rcases h with rfl | rfl | rfl | rfl <;> decide)
  have k8 : W8 m c (Proc.devRef .tc r) = W7 m c (Proc.devRef .tc r) :=
    StableHlo.after_of_writes_sub hostOps2 _ hostOps2_writes (by rcases h with rfl | rfl | rfl | rfl <;> decide)
  rw [k8, k7, k6, V5_of m c r (by rcases h with rfl | rfl | rfl | rfl <;> decide), V4_of m c r (by rcases h with rfl | rfl | rfl | rfl <;> decide),
    V3_of m c r (by rcases h with rfl | rfl | rfl | rfl <;> decide), V2_of m c r (by rcases h with rfl | rfl | rfl | rfl <;> decide),
    V1_of m c r (by rcases h with rfl | rfl | rfl | rfl <;> decide)]

/-- The run, read at the results and the arguments. -/
theorem run_read (h : OnCanvas (m ((dev0 : Thread nD τ).loc main_arg3))) : θ_run defs (onTc (τ := τ) (main (F := F))) ⟨m, fun _ => 0, ρ⟩ (fun r =>
      (∀ c : Dev nD, r.2.mem ((c : Thread nD τ).loc main_v21) = W8 m c main_v21 ∧ r.2.mem ((c : Thread nD τ).loc main_v20) = W8 m c main_v20
        ∧ r.2.mem ((c : Thread nD τ).loc main_v30) = W8 m c main_v30
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3))
      ∧ r.2.sem = fun _ => 0) :=
  (θ_run defs _ _).mono (fun r q => ⟨fun c => ⟨q.1 c _ (mem_uc main_v21 rfl), q.1 c _ (mem_uc main_v20 rfl), q.1 c _ (mem_uc main_v30 rfl),
      (q.1 c _ (mem_uc main_arg0 rfl)).trans (W8_arg m c main_arg0 (.inl rfl)), (q.1 c _ (mem_uc main_arg1 rfl)).trans (W8_arg m c main_arg1 (.inr (.inl rfl))),
      (q.1 c _ (mem_uc main_arg2 rfl)).trans (W8_arg m c main_arg2 (.inr (.inr (.inl rfl)))), (q.1 c _ (mem_uc main_arg3 rfl)).trans (W8_arg m c main_arg3 (.inr (.inr (.inr rfl))))⟩, q.2⟩)
    (run m ρ (tables m h))

end Cert.KernelIdeal.Frame
end
-- ==== Proof.Mass.lean ====
/- The second precondition taken apart: every centre's coordinates are in the canvas, as the first one says, and every volume has an entry
   above minus infinity. -/
module

public import proofs.«01_k».proof.Proof.Gen.Pre_in_canvas
public import proofs.«01_k».proof.Proof.Gen.Pre_in_canvas_some_mass
public import proofs.«01_k».proof.Proof.Canvas

@[expose] public section

set_option maxRecDepth 16384

noncomputable section

namespace Cert.Mass

open Idealize.ShloMosaic
open Cert.Pre_in_canvas_some_mass Cert.Pre_in_canvas_some_mass.Facts

/-- A disjunction over a list of truth words that is true has a true word, if it starts from false. -/
theorem fold_or {β : Type} (f : β → BitVec 1) (l : List β) (h : l.foldl (fun r n => IntOp.ori r (f n)) 0#1 = 1#1) : ∃ n ∈ l, f n = 1#1 := by
  by_contra hc
  have hz : ∀ n ∈ l, f n = 0#1 := fun n hn => by
    have : f n ≠ 1#1 := fun e => hc ⟨n, hn, e⟩
    revert this; generalize f n = x; revert x; decide
  have : l.foldl (fun r n => IntOp.ori r (f n)) 0#1 = 0#1 := by
    clear h hc
    induction l with
    | nil => rfl
    | cons a l ih =>
      rw [List.foldl_cons, hz a (by simp), show IntOp.ori 0#1 0#1 = 0#1 by decide]
      exact ih fun n hn => hz n (by simp [hn])
  rw [this] at h
  exact absurd h (by decide)

variable {F : FTy → Type} [FloatOps F]
variable (hm : FVec F S2x6x23x160x160 .f32) (vol : FVec F S2x23x50x50x50 .f32) (mid : FVec F S2x1x3 .f32) (v : IVec S2x6x2 32)

/-- The second precondition at an index: the first one's conjunction there, and the disjunction over the joint's volume. -/
theorem split (h : Cert.Pre_in_canvas_some_mass.fn (F := F) hm vol mid v = fun _ => 1#1) (b : Fin 2) (k : Fin 6) (j : Fin 23) :
    Cert.Pre_in_canvas.fn (F := F) hm vol mid v (ValueIdx.ix2 b k) = 1#1 ∧
      Host.reduce IntOp.ori (cmpf .ogt vol (fun _ => FloatOps.ofBits .f32 0xFF800000#32)) (constantI S_ 1 0#1) reducesTo_S2x23x50x50x50_S2x23_d2_3_4 h_S_
        (ValueIdx.ix2 b j) = 1#1 := by
  have e := congrFun h (ValueIdx.ix3 b k j)
  obtain ⟨e1, e2⟩ := Cert.Canvas.and_one _ _ (show IntOp.andi _ _ = 1#1 from e)
  constructor
  · refine Eq.trans ?_ e1
    symm
    refine (broadcastInDim_apply _ _ _ _ (ValueIdx.ix3 b k (0 : Fin 1)) (fun a => match a with
      | ⟨0, _⟩ => by show b.val = if (2 : ℕ) = 1 then 0 else b.val; rw [if_neg (by decide)]
      | ⟨1, _⟩ => by show k.val = if (6 : ℕ) = 1 then 0 else k.val; rw [if_neg (by decide)]
      | ⟨2, _⟩ => by show 0 = if (1 : ℕ) = 1 then 0 else j.val; rw [if_pos rfl])).trans ?_
    exact broadcastInDim_apply _ _ _ _ (ValueIdx.ix2 b k) (fun a => match a with
      | ⟨0, _⟩ => by show b.val = if (2 : ℕ) = 1 then 0 else b.val; rw [if_neg (by decide)]
      | ⟨1, _⟩ => by show k.val = if (6 : ℕ) = 1 then 0 else k.val; rw [if_neg (by decide)])
  · refine Eq.trans ?_ e2
    symm
    refine (broadcastInDim_apply _ _ _ _ (ValueIdx.ix3 b (0 : Fin 1) j) (fun a => match a with
      | ⟨0, _⟩ => by show b.val = if (2 : ℕ) = 1 then 0 else b.val; rw [if_neg (by decide)]
      | ⟨1, _⟩ => by show 0 = if (1 : ℕ) = 1 then 0 else k.val; rw [if_pos rfl]
      | ⟨2, _⟩ => by show j.val = if (23 : ℕ) = 1 then 0 else j.val; rw [if_neg (by decide)])).trans ?_
    refine (broadcastInDim_apply _ _ _ _ (ValueIdx.ix2 b j) (fun a => match a with
      | ⟨0, _⟩ => by show b.val = if (2 : ℕ) = 1 then 0 else b.val; rw [if_neg (by decide)]
      | ⟨1, _⟩ => by show j.val = if (23 : ℕ) = 1 then 0 else j.val; rw [if_neg (by decide)])).trans ?_
    rfl

/-- The second precondition implies the first. -/
theorem in_canvas (h : Cert.Pre_in_canvas_some_mass.fn (F := F) hm vol mid v = fun _ => 1#1) : Cert.Pre_in_canvas.fn (F := F) hm vol mid v = fun _ => 1#1 := by
  funext i
  rw [ValueIdx.eq_ix2 i]
  exact (split hm vol mid v h (i 0) (i 1) 0).1

/-- Under the second precondition every volume has an entry that compares above minus infinity. -/
theorem entry (h : Cert.Pre_in_canvas_some_mass.fn (F := F) hm vol mid v = fun _ => 1#1) (b : Fin 2) (j : Fin 23) :
    ∃ i : S2x23x50x50x50.Idx, (reducesTo_S2x23x50x50x50_S2x23_d2_3_4).drop i = ValueIdx.ix2 b j
      ∧ FloatOps.cmpf .ogt (vol i) (FloatOps.ofBits .f32 0xFF800000#32) = 1#1 := by
  obtain ⟨n, hn, e⟩ := fold_or _ _ (split hm vol mid v h b 0 j).2
  exact ⟨S2x23x50x50x50.rowMajor.symm n, by simpa using (List.mem_filter.mp hn).2, e⟩

end Cert.Mass

end
-- ==== Proof.Spot.lean ====
/- A picture placed on a canvas, read at a canvas position. -/
module

public import Idealize.ShloMosaic.Lib.Pipeline.Value

@[expose] public section

namespace Cert

/-- Row `r`, column `q` of a canvas filled with `z` on which the picture `h` is placed with its corner at row `y` and column `x`. -/
def spot {α : Type} (y x : ℕ) (h : Fin 160 → Fin 160 → α) (z : α) (r q : ℕ) : α :=
  if c : (y ≤ r ∧ r < y + 160) ∧ x ≤ q ∧ q < x + 160 then h ⟨r - y, by omega⟩ ⟨q - x, by omega⟩ else z

end Cert
-- ==== Proof.PlaceValue.lean ====
/- What the placing kernel's canvases hold, read at a canvas position: every heatmap of the block at its corner, zero elsewhere. -/
module

public import proofs.«01_k».proof.Proof.PlaceI
public import proofs.«01_k».proof.Proof.Spot
public import Idealize.ShloMosaic.Lib.KernelVsHost

@[expose] public section

set_option maxRecDepth 16384

noncomputable section

namespace Cert.KernelIdeal.Place

open Idealize.ShloMosaic Idealize.ShloMosaic.TcCoe
open Cert.KernelIdeal.Gen

variable {F : FTy → Type} [FloatOps F]

/-- The band of a row word starts at the word rounded down to a multiple of eight. -/
theorem top_ofNat : ∀ n : Fin 352, top (BitVec.ofNat 32 n.val) = n.val / 8 * 8 := by
  unfold top k1_off2
  decide +kernel

/-- The rotation within a group of eight rows is by the row word's remainder. -/
theorem low_ofNat : ∀ n : Fin 352, (Scalar.andi (BitVec.ofNat 32 n.val) 7#32 : BitVec 32).toNat = n.val % 8 := by
  decide +kernel

/-- The band of a heatmap at a band position: the padded heatmap, moved down by `e` rows and right by `x` columns. -/
theorem band_apply (a w : BitVec 32) (x e : ℕ) (hx : a.toNat = x) (hx' : x ≤ 480) (he : (Scalar.andi w 7#32 : BitVec 32).toNat = e) (he' : e < 8)
    (h : Vec F S160x160 .f32) (t : Fin 168) (q : Fin 640) :
    k1_pay8 a w (padOf h) (ValueIdx.ix3 (0 : Fin 1) t q)
      = spot e x (fun r s => h (ValueIdx.ix2 r s)) zero t.val q.val := by
  unfold k1_pay8
  have ht := t.isLt
  have hq := q.isLt
  rw [shapeCast_apply _ _ (ValueIdx.ix3 (0 : Fin 1) t q) (ValueIdx.ix2 t q) (by
    rewrite [Shape.rowMajor_val_two, Shape.rowMajor_val_three]; show t.val * 640 + q.val = (0 * 168 + t.val) * 640 + q.val; omega)]
  rw [dynamicRotate_apply 0 _ _ _ (ValueIdx.ix2 t q)
    (ValueIdx.ix2 (⟨(t.val + 168 - e) % 168, Nat.mod_lt _ (by decide)⟩ : Fin 168) q) (fun b => match b with
      | ⟨0, _⟩ => by
        rw [if_pos (by rfl), he]; show (t.val + 168 - e) % 168 = (t.val + 168 - e % 168) % 168
        rw [Nat.mod_eq_of_lt (by omega : e < 168)]
      | ⟨1, _⟩ => by rw [if_neg (fun h => absurd (congrArg Fin.val h) (by decide : ¬ (1 : ℕ) = 0))])]
  rw [dynamicRotate_apply 1 _ _ _ _
    (ValueIdx.ix2 (⟨(t.val + 168 - e) % 168, Nat.mod_lt _ (by decide)⟩ : Fin 168)
      (⟨(q.val + 640 - x) % 640, Nat.mod_lt _ (by decide)⟩ : Fin 640)) (fun b => match b with
      | ⟨0, _⟩ => by rw [if_neg (fun h => absurd (congrArg Fin.val h) (by decide : ¬ (0 : ℕ) = 1))]
      | ⟨1, _⟩ => by
        rw [if_pos (by rfl), hx]; show (q.val + 640 - x) % 640 = (q.val + 640 - x % 640) % 640
        rw [Nat.mod_eq_of_lt (by omega : x < 640)])]
  unfold padOf spot
  by_cases c : (e ≤ t.val ∧ t.val < e + 160) ∧ x ≤ q.val ∧ q.val < x + 160
  · have e0 : (t.val + 168 - e) % 168 = t.val - e := by omega
    have e1 : (q.val + 640 - x) % 640 = q.val - x := by omega
    rw [dif_pos c, dif_pos (show (t.val + 168 - e) % 168 < 160 ∧ (q.val + 640 - x) % 640 < 160 by omega)]
    exact congrArg h (congrArg₂ ValueIdx.ix2 (Fin.ext e0) (Fin.ext e1))
  · rw [dif_neg c, dif_neg (show ¬ ((t.val + 168 - e) % 168 < 160 ∧ (q.val + 640 - x) % 640 < 160) by omega)]

/-- Canvas `k` at a position: heatmap `k` of the block with its corner at row `y` and column `x`, zero elsewhere. -/
theorem placed_apply (X Y : Fin 6 → BitVec 32) (x0 : Vec F S6x160x160 .f32) (k : Fin 6) (r : Fin 512) (q : Fin 640)
    (y : Fin 352) (x : Fin 481) (hY : Y k = BitVec.ofNat 32 y.val) (hX : X k = BitVec.ofNat 32 x.val) :
    placed X Y x0 (ValueIdx.ix3 k r q) = spot y.val x.val (fun a b => x0 (ValueIdx.ix3 k a b)) zero r.val q.val := by
  show bandAt (top (Y k)) (k1_pay8 (X k) (Y k) (padOf (rowOf x0 k))) r q = _
  have hy := y.isLt
  have hx := x.isLt
  rw [show top (Y k) = y.val / 8 * 8 by rw [hY]; exact top_ofNat y]
  unfold bandAt
  by_cases c : y.val / 8 * 8 ≤ r.val ∧ r.val < y.val / 8 * 8 + 168
  · rw [dif_pos c, band_apply (X k) (Y k) x.val (y.val % 8) (by rw [hX, BitVec.toNat_ofNat]; exact Nat.mod_eq_of_lt (by omega)) (by omega)
      (by rw [hY]; exact low_ofNat y) (by omega)]
    unfold spot
    by_cases d : (y.val ≤ r.val ∧ r.val < y.val + 160) ∧ x.val ≤ q.val ∧ q.val < x.val + 160
    · rw [dif_pos d, dif_pos (by show (y.val % 8 ≤ r.val - y.val / 8 * 8 ∧ r.val - y.val / 8 * 8 < y.val % 8 + 160) ∧ _; omega)]
      exact congrArg x0 (congrArg₂ (ValueIdx.ix3 k) (Fin.ext (by show r.val - y.val / 8 * 8 - y.val % 8 = r.val - y.val; omega)) rfl)
    · rw [dif_neg d, dif_neg (by show ¬ ((y.val % 8 ≤ r.val - y.val / 8 * 8 ∧ r.val - y.val / 8 * 8 < y.val % 8 + 160) ∧ _); omega)]
  · rw [dif_neg c]
    unfold spot
    rw [dif_neg (by omega)]

end Cert.KernelIdeal.Place
-- ==== Proof.PlaceArray.lean ====
/- The placing kernel's result array after all its points: every heatmap on its canvas. -/
module

public import proofs.«01_k».proof.Proof.PlaceRegionI
public import proofs.«01_k».proof.Proof.PlaceValue
public import Idealize.ShloMosaic.Lib.Pipeline.ValueKit.Geometry

@[expose] public section

set_option maxRecDepth 16384

noncomputable section

namespace Cert.KernelIdeal.Place

open Idealize.ShloMosaic Idealize.ShloMosaic.TcCoe
open Idealize.SL Idealize.SL.RA Idealize.SL.Sem
open Idealize.ShloMosaic.Pipeline (Dat Cfg Window)
open Cert.KernelIdeal.Gen

variable {F : FTy → Type} [FloatOps F]
variable (V : (c : Dev nD) → (b : Ref sig .tc) → Buf (Elt F) ((c : Thread nD τ).loc b)) (a : (pcfg1 (F := F)).Adm)

/-- The windows of the placing pipeline; they do not depend on the tables. -/
abbrev win_in : Window sig grid1 :=
  Window.ofSpec (Memref.whole main_v0) S6x160x160.size cc1_transform_0 reads1_0 false false 2 stage1_0 sem1_0
    (by decide) Facts₀.hreads1_0 Facts₀.hinb1_0 Facts₀.nbuf1_0 (Memref.isWhole_whole _) Facts₀.hwx1_0 Facts₀.hstage1_0
abbrev win_out : Window sig grid1 :=
  Window.ofSpec (Memref.whole main_v19) S6x512x640.size cc1_transform_1 reads1_1 true false 2 stage1_1 sem1_1
    (by decide) Facts₀.hreads1_1 Facts₀.hinb1_1 Facts₀.nbuf1_1 (Memref.isWhole_whole _) Facts₀.hwx1_1 Facts₀.hstage1_1
theorem win_in_eq : (cfg1 a).win 0 = win_in := rfl
theorem win_out_eq : (cfg1 a).win 1 = win_out := rfl

/-- The canvases' blocks cover the array. -/
theorem covers : win_out.Covers := by decide +kernel

/-- The block of either window at a point starts at six times the point. -/
theorem index_out : ∀ t : Fin grid1.N, win_out.index t = ![(grid1.coords t 0).val, 0, 0] := by decide +kernel
theorem index_in : ∀ t : Fin grid1.N, win_in.index t = ![(grid1.coords t 0).val, 0, 0] := by decide +kernel

/-- All the canvases: canvas `n` holds crop `n` with its corner at row `Y n` and column `X n`, zero elsewhere. -/
def canvases (X : Fin 276 → Fin 481) (Y : Fin 276 → Fin 352) (x : Vec F S276x160x160 .f32) : Vec F S276x512x640 .f32 := fun i =>
  spot (Y (i 0)).val (X (i 0)).val (fun p q => x (ValueIdx.ix3 (i 0) p q)) zero (i 1).val (i 2).val

/-- Where an element of the output's block at a point lies in the array. -/
theorem emb_out (t : Fin grid1.N) (k : Fin 6) (r : Fin 512) (q : Fin 640) (n : Fin 276) (hn : n.val = 6 * (grid1.coords t 0).val + k.val) :
    (win_out.blk t).view.emb (ValueIdx.ix3 k r q) = ValueIdx.ix3 n r q := by
  blk_ext [index_out]
  show (grid1.coords t 0).val * 6 + k.val = n.val
  omega

/-- Where an element of the input's block at a point lies in the array. -/
theorem emb_in (t : Fin grid1.N) (k : Fin 6) (p q : Fin 160) (n : Fin 276) (hn : n.val = 6 * (grid1.coords t 0).val + k.val) :
    (win_in.blk t).view.emb (ValueIdx.ix3 k p q) = ValueIdx.ix3 n p q := by
  blk_ext [index_in]
  show (grid1.coords t 0).val * 6 + k.val = n.val
  omega

/-- The array of canvases after every point, the tables' words being the rows `Y` and the columns `X`. -/
theorem arr_out (c : Dev nD) (X : Fin 276 → Fin 481) (Y : Fin 276 → Fin 352) (hX : ∀ n, tabX a (ValueIdx.ix1 n) = BitVec.ofNat 32 (X n).val)
    (hY : ∀ n, tabY a (ValueIdx.ix1 n) = BitVec.ofNat 32 (Y n).val) :
    (dat1 V a c).arrAt 1 (cfg1 a).N = canvases X Y (V c main_v0) := by
  refine (dat1 V a c).arrAt_eq_of_covers 1 _ covers (fun t _ y => ?_) (Memref.isWhole_whole _)
  rw [after1_1]
  have hc : (grid1.coords t 0).val < 46 := (grid1.coords t 0).isLt
  change S6x512x640.Idx at y
  obtain ⟨k, r, q, rfl⟩ : ∃ (k : Fin 6) (r : Fin 512) (q : Fin 640), y = ValueIdx.ix3 k r q := ⟨y 0, y 1, y 2, ValueIdx.eq_ix3 y⟩
  have hk := k.isLt
  have e := emb_out t k r q ⟨6 * (grid1.coords t 0).val + k.val, by omega⟩ rfl
  refine Eq.trans ?_ (congrArg (canvases X Y (V c main_v0)) e).symm
  refine (placed_apply _ _ _ k r q (Y ⟨6 * (grid1.coords t 0).val + k.val, by omega⟩) (X ⟨6 * (grid1.coords t 0).val + k.val, by omega⟩) (hY _) (hX _)).trans ?_
  show spot _ _ _ _ _ _ = spot _ _ _ _ _ _
  refine congrArg (fun h => spot _ _ h zero r.val q.val) (funext fun p => funext fun s => ?_)
  exact congrArg (V c main_v0) (emb_in t k p s _ rfl)

end Cert.KernelIdeal.Place
-- ==== Proof.RefPlace.lean ====
/- What the reference's padded heatmaps hold, read at an index: every crop at its corner, zero elsewhere. The reference places the twelve
   stacks of crops one after another and stacks the canvases; one definition, over the sample and the camera, is all twelve. -/
module

public import proofs.«01_k».proof.Proof.Gen.ReferenceIdeal.Read
public import proofs.«01_k».proof.Proof.HostI
public import proofs.«01_k».proof.Proof.Spot
public import Idealize.ShloMosaic.Lib.Pipeline.Value
public import Idealize.ShloMosaic.Lib.ValueIdxRank6

@[expose] public section

set_option maxRecDepth 16384

noncomputable section

namespace Cert.ReferenceIdeal.Place

open Idealize.ShloMosaic Idealize.ShloMosaic.TcCoe
open Cert.ReferenceIdeal.Gen Cert.ReferenceIdeal.Read

variable {F : FTy → Type} [FloatOps F]

/-- The crop of sample `b` and camera `k` fits the crops. -/
theorem crop_slices (b : Fin 2) (k : Fin 6) : S2x6x23x160x160.Slices ![b.val, k.val, 0, 0, 0] S1x1x23x160x160 := by
  revert b k; decide

/-- The centre of sample `b` and camera `k` is one of the centres. -/
theorem centre_slices (b : Fin 2) (k : Fin 6) : S2x6x2.Slices ![b.val, k.val, 0] S1x1x2 := by
  revert b k; decide

/-- A coordinate is one of the two of a centre. -/
theorem coord_slices (d : Fin 2) : S2.Slices ![d.val] S1 := by
  revert d; decide

/-- The stack of crops of sample `b` and camera `k`. -/
def crop (x0 : Vec F S2x6x23x160x160 .f32) (b : Fin 2) (k : Fin 6) : Vec F S23x160x160 .f32 :=
  shapeCast S23x160x160 (extractStridedSlice S1x1x23x160x160 ![b.val, k.val, 0, 0, 0] x0 (crop_slices b k)) shapeCasts_S1x1x23x160x160_S23x160x160

/-- Coordinate `d` of the corner for sample `b` and camera `k`. -/
def corner (x3 : Vec F S2x6x2 .i32) (b : Fin 2) (k : Fin 6) (d : Fin 2) : Vec F S_ .i32 :=
  shapeCast S_ (extractStridedSlice S1 ![d.val]
    (shapeCast S2 (extractStridedSlice S1x1x2 ![b.val, k.val, 0] (val_main_v2 (F := F) x3) (centre_slices b k)) shapeCasts_S1x1x2_S2) (coord_slices d))
    shapeCasts_S1_S_

/-- A start index as the update takes it: a negative one counts from the end of an axis of extent `n`. -/
def wrap (n : BitVec 32) (w : Vec F S_ .i32) : Vec F S_ .i32 :=
  select (cmpi .slt w (constantI S_ 32 0#32)) (addi w (constantI S_ 32 n)) w

/-- The canvases of sample `b` and camera `k`. -/
def placed (x0 : Vec F S2x6x23x160x160 .f32) (x3 : Vec F S2x6x2 .i32) (b : Fin 2) (k : Fin 6) : Vec F S23x512x640 .f32 :=
  Host.dynamicUpdateSlice (val_main_v7 (F := F)) (crop x0 b k)
    (fun a => (((![val_main_v14 (F := F), wrap 512#32 (corner x3 b k 1), wrap 640#32 (corner x3 b k 0)] : Fin 3 → Vec F S_ .i32)) a
      (Shape.Idx.first h_S_)).toInt) updateFits_S23x512x640_S23x160x160

/-- The stack of crops, read at an index. -/
theorem crop_apply (x0 : Vec F S2x6x23x160x160 .f32) (b : Fin 2) (k : Fin 6) (j : Fin 23) (r q : Fin 160) :
    crop x0 b k (ValueIdx.ix3 j r q) = x0 (ValueIdx.ix5 b k j r q) := by
  unfold crop
  rw [shapeCast_apply _ _ (ValueIdx.ix3 j r q) (ValueIdx.ix5 (0 : Fin 1) (0 : Fin 1) j r q) (by
    rewrite [Shape.rowMajor_val_three, Shape.rowMajor_val_five]
    show (((0 * 1 + 0) * 23 + j.val) * 160 + r.val) * 160 + q.val = (j.val * 160 + r.val) * 160 + q.val
    omega)]
  exact extractStridedSlice_apply _ x0 _ _ (ValueIdx.ix5 b k j r q) (fun a => match a with
    | ⟨0, _⟩ => by show b.val = b.val + 0; omega
    | ⟨1, _⟩ => by show k.val = k.val + 0; omega
    | ⟨2, _⟩ => by show j.val = 0 + j.val; omega
    | ⟨3, _⟩ => by show r.val = 0 + r.val; omega
    | ⟨4, _⟩ => by show q.val = 0 + q.val; omega)

/-- The corner's coordinate is the halved, shifted coordinate of the centre. -/
theorem corner_apply (x3 : Vec F S2x6x2 .i32) (b : Fin 2) (k : Fin 6) (d : Fin 2) (i : S_.Idx) :
    corner x3 b k d i = val_main_v2 (F := F) x3 (ValueIdx.ix3 b k d) := by
  unfold corner
  rw [shapeCast_apply _ _ i (ValueIdx.ix1 (0 : Fin 1)) (by
    have := (S_.rowMajor i).isLt
    rewrite [Shape.rowMajor_val_one]
    show 0 = (S_.rowMajor i).val
    have e : S_.numel = 1 := by decide
    omega)]
  rw [extractStridedSlice_apply _ _ _ (ValueIdx.ix1 (0 : Fin 1)) (ValueIdx.ix1 d) (fun a => match a with
    | ⟨0, _⟩ => by show d.val = d.val + 0; omega)]
  rw [shapeCast_apply _ _ (ValueIdx.ix1 d) (ValueIdx.ix3 (0 : Fin 1) (0 : Fin 1) d) (by
    rewrite [Shape.rowMajor_val_one, Shape.rowMajor_val_three]
    show (0 * 1 + 0) * 2 + d.val = d.val
    omega)]
  exact extractStridedSlice_apply _ _ _ _ (ValueIdx.ix3 b k d) (fun a => match a with
    | ⟨0, _⟩ => by show b.val = b.val + 0; omega
    | ⟨1, _⟩ => by show k.val = k.val + 0; omega
    | ⟨2, _⟩ => by show d.val = 0 + d.val; omega)

/-- The reference's halved, shifted centres, read at an index: the kernel's host computes the same word. -/
theorem v2_apply (x3 : Vec F S2x6x2 .i32) (i : S2x6x2.Idx) :
    val_main_v2 (F := F) x3 i = Cert.KernelIdeal.Host.cornerWord (x3 i) := rfl

/-- A start index that is a small number is taken as that number. -/
theorem wrap_ofNat : ∀ n : Fin 481, (Scalar.select (IntOp.cmpi .slt (BitVec.ofNat 32 n.val) 0#32) (IntOp.addi (BitVec.ofNat 32 n.val) 512#32) (BitVec.ofNat 32 n.val)).toInt = n.val
    ∧ (Scalar.select (IntOp.cmpi .slt (BitVec.ofNat 32 n.val) 0#32) (IntOp.addi (BitVec.ofNat 32 n.val) 640#32) (BitVec.ofNat 32 n.val)).toInt = n.val := by
  decide +kernel

/-- The start of a corner's coordinate, where the centre's coordinate is `160 + n`. -/
theorem start_eq (x3 : Vec F S2x6x2 .i32) (b : Fin 2) (k : Fin 6) (d : Fin 2) (n : Fin 960) (h : x3 (ValueIdx.ix3 b k d) = BitVec.ofNat 32 (160 + n.val))
    (i : S_.Idx) : (wrap 512#32 (corner x3 b k d) i).toInt = (n.val / 2 : ℕ) ∧ (wrap 640#32 (corner x3 b k d) i).toInt = (n.val / 2 : ℕ) := by
  have e : corner x3 b k d i = BitVec.ofNat 32 (n.val / 2) := by
    rw [corner_apply, v2_apply, h, Cert.KernelIdeal.Host.cornerWord_eq]
  have w := wrap_ofNat ⟨n.val / 2, by have := n.isLt; omega⟩
  constructor
  · show (Scalar.select (IntOp.cmpi .slt (corner x3 b k d i) 0#32) (IntOp.addi (corner x3 b k d i) 512#32) (corner x3 b k d i)).toInt = _
    rw [e]; exact w.1
  · show (Scalar.select (IntOp.cmpi .slt (corner x3 b k d i) 0#32) (IntOp.addi (corner x3 b k d i) 640#32) (corner x3 b k d i)).toInt = _
    rw [e]; exact w.2

/-- The canvases of sample `b` and camera `k`, read at an index: the crop of the joint with its corner where the centre puts it, zero elsewhere. -/
theorem placed_apply (x0 : Vec F S2x6x23x160x160 .f32) (x3 : Vec F S2x6x2 .i32) (b : Fin 2) (k : Fin 6) (nx : Fin 960) (ny : Fin 704)
    (hx : x3 (ValueIdx.ix3 b k 0) = BitVec.ofNat 32 (160 + nx.val)) (hy : x3 (ValueIdx.ix3 b k 1) = BitVec.ofNat 32 (160 + ny.val))
    (j : Fin 23) (r : Fin 512) (q : Fin 640) :
    placed x0 x3 b k (ValueIdx.ix3 j r q)
      = spot (ny.val / 2) (nx.val / 2) (fun a c => x0 (ValueIdx.ix5 b k j a c)) (Scalar.ofBits .f32 0x00000000#32) r.val q.val := by
  have gx := nx.isLt
  have gy := ny.isLt
  have hj := j.isLt
  have ex := (start_eq x3 b k 0 nx hx (Shape.Idx.first h_S_)).2
  have ey := (start_eq x3 b k 1 ⟨ny.val, by omega⟩ hy (Shape.Idx.first h_S_)).1
  unfold placed
  refine (congrFun (Host.dynamicUpdateSlice_eq_updateSlice (s := S23x512x640) (u := S23x160x160) _ _ _ _ ![0, ny.val / 2, nx.val / 2] (fun a => match a with
      | ⟨0, _⟩ => by rfl
      | ⟨1, _⟩ => by
        show (min (max ((wrap 512#32 (corner x3 b k 1) (Shape.Idx.first h_S_)).toInt) 0) ((512 - 160 : ℕ) : ℤ)).toNat = ny.val / 2
        rw [ey]; show (min (max ((ny.val / 2 : ℕ) : ℤ) 0) ((512 - 160 : ℕ) : ℤ)).toNat = ny.val / 2; omega
      | ⟨2, _⟩ => by
        show (min (max ((wrap 640#32 (corner x3 b k 0) (Shape.Idx.first h_S_)).toInt) 0) ((640 - 160 : ℕ) : ℤ)).toNat = nx.val / 2
        rw [ex]; omega)
    ⟨rfl, fun a => match a with
      | ⟨0, _⟩ => by show 0 + 23 ≤ 23; omega
      | ⟨1, _⟩ => by show ny.val / 2 + 160 ≤ 512; omega
      | ⟨2, _⟩ => by show nx.val / 2 + 160 ≤ 640; omega⟩) _).trans ?_
  unfold updateSlice spot
  by_cases c : (ny.val / 2 ≤ r.val ∧ r.val < ny.val / 2 + 160) ∧ nx.val / 2 ≤ q.val ∧ q.val < nx.val / 2 + 160
  · rw [dif_pos c, dif_pos (fun a => match a with
      | ⟨0, _⟩ => by show 0 ≤ j.val ∧ j.val < 0 + 23; omega
      | ⟨1, _⟩ => c.1
      | ⟨2, _⟩ => c.2)]
    refine Eq.trans (congrArg (crop x0 b k) (funext fun a => Fin.ext ?_)) (crop_apply x0 b k j ⟨r.val - ny.val / 2, by omega⟩ ⟨q.val - nx.val / 2, by omega⟩)
    match a with
    | ⟨0, _⟩ => show j.val - 0 = j.val; omega
    | ⟨1, _⟩ => rfl
    | ⟨2, _⟩ => rfl
  · rw [dif_neg c, dif_neg (fun h => c ⟨h 1, h 2⟩)]
    rfl

/-- The canvases of one sample, stacked over the cameras. -/
theorem stack (x0 : Vec F S2x6x23x160x160 .f32) (x3 : Vec F S2x6x2 .i32) (b : Fin 2) (k : Fin 6) (j : Fin 23) (r : Fin 512) (q : Fin 640)
    (f : Fin 6 → Vec F S1x23x512x640 .f32)
    (hf : f = fun k => broadcastInDim S1x23x512x640 ![1, 2, 3] bcast_S23x512x640_S1x23x512x640_1_2_3 (placed x0 x3 b k)) (h) :
    concatenate S6x23x512x640 0 (List.ofFn fun k : Fin 6 => (⟨S1x23x512x640, f k⟩ : (s : Shape) × (s.Idx → F .f32))) h (ValueIdx.ix4 k j r q)
      = placed x0 x3 b k (ValueIdx.ix3 j r q) := by
  rw [concatenate_ofFn_unit_apply 0 f h rfl rfl (ValueIdx.ix4 k j r q) k rfl (ValueIdx.ix4 (0 : Fin 1) j r q) (fun a ha => match a with
    | ⟨0, _⟩ => absurd rfl ha
    | ⟨1, _⟩ => rfl
    | ⟨2, _⟩ => rfl
    | ⟨3, _⟩ => rfl)]
  subst hf
  exact broadcastInDim_apply _ _ _ _ (ValueIdx.ix3 j r q) (fun a => match a with
    | ⟨0, _⟩ => by show j.val = if (23 : ℕ) = 1 then 0 else j.val; rw [if_neg (by decide)]
    | ⟨1, _⟩ => by show r.val = if (512 : ℕ) = 1 then 0 else r.val; rw [if_neg (by decide)]
    | ⟨2, _⟩ => by show q.val = if (640 : ℕ) = 1 then 0 else q.val; rw [if_neg (by decide)])

/-- A function on six points is the six values it takes. -/
theorem six {α : Type} (f g : Fin 6 → α) (h0 : f 0 = g 0) (h1 : f 1 = g 1) (h2 : f 2 = g 2) (h3 : f 3 = g 3) (h4 : f 4 = g 4) (h5 : f 5 = g 5) : f = g := by
  funext k; fin_cases k <;> assumption

/-- The first sample's canvases. -/
theorem v123_apply (x0 : Vec F S2x6x23x160x160 .f32) (x3 : Vec F S2x6x2 .i32) (k : Fin 6) (j : Fin 23) (r : Fin 512) (q : Fin 640) :
    val_main_v123 (F := F) x0 x3 (ValueIdx.ix4 k j r q) = placed x0 x3 0 k (ValueIdx.ix3 j r q) :=
  stack x0 x3 0 k j r q ![val_main_v117 (F := F) x0 x3, val_main_v118 (F := F) x0 x3, val_main_v119 (F := F) x0 x3, val_main_v120 (F := F) x0 x3,
    val_main_v121 (F := F) x0 x3, val_main_v122 (F := F) x0 x3] (six _ _ rfl rfl rfl rfl rfl rfl) concatenates_S1x23x512x640_S1x23x512x640_S1x23x512x640_S1x23x512x640_S1x23x512x640_S1x23x512x640_S6x23x512x640_d0

/-- The second sample's canvases. -/
theorem v244_apply (x0 : Vec F S2x6x23x160x160 .f32) (x3 : Vec F S2x6x2 .i32) (k : Fin 6) (j : Fin 23) (r : Fin 512) (q : Fin 640) :
    val_main_v244 (F := F) x0 x3 (ValueIdx.ix4 k j r q) = placed x0 x3 1 k (ValueIdx.ix3 j r q) :=
  stack x0 x3 1 k j r q ![val_main_v238 (F := F) x0 x3, val_main_v239 (F := F) x0 x3, val_main_v240 (F := F) x0 x3, val_main_v241 (F := F) x0 x3,
    val_main_v242 (F := F) x0 x3, val_main_v243 (F := F) x0 x3] (six _ _ rfl rfl rfl rfl rfl rfl) concatenates_S1x23x512x640_S1x23x512x640_S1x23x512x640_S1x23x512x640_S1x23x512x640_S1x23x512x640_S6x23x512x640_d0

/-- The reference's padded heatmaps, read at an index. -/
theorem v247_apply (x0 : Vec F S2x6x23x160x160 .f32) (x3 : Vec F S2x6x2 .i32) (b : Fin 2) (k : Fin 6) (j : Fin 23) (r : Fin 512) (q : Fin 640) :
    val_main_v247 (F := F) x0 x3 (ValueIdx.ix5 b k j r q) = placed x0 x3 b k (ValueIdx.ix3 j r q) := by
  have e (u : Fin 1) : idx_main_v245 (ValueIdx.ix5 u k j r q) = ValueIdx.ix4 k j r q := funext fun a => match a with
    | ⟨0, _⟩ => rfl
    | ⟨1, _⟩ => rfl
    | ⟨2, _⟩ => rfl
    | ⟨3, _⟩ => rfl
  unfold val_main_v247
  match b with
  | ⟨0, _⟩ =>
    refine (concatenate_pair_apply_left (t := S2x6x23x512x640) (s₁ := S1x6x23x512x640) (s₂ := S1x6x23x512x640) 0 _ _ _ (ValueIdx.ix5 (0 : Fin 2) k j r q) rfl
      (ValueIdx.ix5 (0 : Fin 1) k j r q) (fun a => match a with
      | ⟨0, _⟩ => rfl | ⟨1, _⟩ => rfl | ⟨2, _⟩ => rfl | ⟨3, _⟩ => rfl | ⟨4, _⟩ => rfl)).trans ?_
    rw [val_main_v245_apply, e]
    exact v123_apply x0 x3 k j r q
  | ⟨1, _⟩ =>
    refine (concatenate_pair_apply_right (t := S2x6x23x512x640) (s₁ := S1x6x23x512x640) (s₂ := S1x6x23x512x640) 0 _ _ _ (ValueIdx.ix5 (1 : Fin 2) k j r q) rfl rfl
      (ValueIdx.ix5 (0 : Fin 1) k j r q) (fun a ha => match a with
      | ⟨0, _⟩ => absurd rfl ha | ⟨1, _⟩ => rfl | ⟨2, _⟩ => rfl | ⟨3, _⟩ => rfl | ⟨4, _⟩ => rfl) rfl).trans ?_
    rw [val_main_v246_apply]
    exact (congrArg _ (e 0)).trans (v244_apply x0 x3 k j r q)

end Cert.ReferenceIdeal.Place
-- ==== Proof.ValueCanvas.lean ====
/- The second result, the heatmaps on their canvases: what the idealized program leaves is what the reference's operations compute from the same
   arguments, at every index. -/
module

public import proofs.«01_k».proof.Proof.FrameI
public import proofs.«01_k».proof.Proof.PlaceArray
public import proofs.«01_k».proof.Proof.RefPlace

@[expose] public section

set_option maxRecDepth 16384

noncomputable section

namespace Cert.Values

open Idealize.ShloMosaic Idealize.ShloMosaic.TcCoe Idealize.ShloMosaic.Tactic
open Cert.KernelIdeal Cert.KernelIdeal.Gen Cert.KernelIdeal.Run Cert.KernelIdeal.Host Cert.KernelIdeal.Frame

variable {F : FTy → Type} [FloatOps F]

/-- The closing host stretch hands the canvases on, regrouped by item, camera and joint. -/
theorem ops2_v20 (W : Valuation τ sig (Elt F)) :
    StableHlo.after hostOps2 W main_v20 = shapeCast S2x6x23x512x640 (W main_v19) shapeCasts_S276x512x640_S2x6x23x512x640 := by
  after_results
  try rfl

variable (m : (ℓ : Loc nD τ sig) → Buf (Elt F) ℓ)

/-- The array that the placing kernel reads is the crops. -/
theorem at6_v0 (c : Dev nD) : at6 m c main_v0 = shapeCast S276x160x160 (m ((c : Thread nD τ).loc main_arg0)) shapeCasts_S2x6x23x160x160_S276x160x160 :=
  (W6_of m c main_v0 (by decide)).trans (crops_eq m c)

/-- Rows and columns that the tables' words name, from centres on the canvas. -/
theorem corners (h : OnCanvas (m ((dev0 : Thread nD τ).loc main_arg3))) :
    ∃ (nx : Fin 2 → Fin 6 → Fin 960) (ny : Fin 2 → Fin 6 → Fin 704),
      ∀ b k, m ((dev0 : Thread nD τ).loc main_arg3) (ValueIdx.ix3 b k (0 : Fin 2)) = BitVec.ofNat 32 (160 + (nx b k).val)
        ∧ m ((dev0 : Thread nD τ).loc main_arg3) (ValueIdx.ix3 b k (1 : Fin 2)) = BitVec.ofNat 32 (160 + (ny b k).val) :=
  ⟨fun b k => (h b k).1.choose, fun b k => (h b k).2.choose, fun b k => ⟨(h b k).1.choose_spec, (h b k).2.choose_spec⟩⟩

/-- Item and camera of crop `n`. -/
def item (n : Fin 276) : Fin 2 := ⟨n.val / 138, by omega⟩
def camera (n : Fin 276) : Fin 6 := ⟨n.val / 23 % 6, by omega⟩

theorem item_of (b : Fin 2) (k : Fin 6) (j : Fin 23) (n : Fin 276) (hn : n.val = (b.val * 6 + k.val) * 23 + j.val) : item n = b :=
  Fin.ext (by show n.val / 138 = b.val; omega)
theorem camera_of (b : Fin 2) (k : Fin 6) (j : Fin 23) (n : Fin 276) (hn : n.val = (b.val * 6 + k.val) * 23 + j.val) : camera n = k :=
  Fin.ext (by show n.val / 23 % 6 = k.val; omega)

/-- The heatmaps on their canvases: the idealized program's second result is the reference's. -/
theorem v20_eq (h : OnCanvas (m ((dev0 : Thread nD τ).loc main_arg3))) :
    W8 m dev0 main_v20 = ReferenceIdeal.Read.val_main_v247 (m ((dev0 : Thread nD τ).loc main_arg0)) (m ((dev0 : Thread nD τ).loc main_arg3)) := by
  obtain ⟨nx, ny, hn⟩ := corners m h
  have hX : ∀ n : Fin 276, Place.tabX (tabs m) (ValueIdx.ix1 n) = BitVec.ofNat 32 (nx (item n) (camera n)).val.div2 := by
    intro n
    obtain ⟨b, k, j, e⟩ := split n
    rw [tabX_apply m b k j n e, item_of b k j n e, camera_of b k j n e, (hn b k).1, cornerWord_eq, Nat.div2_val]
  have hY : ∀ n : Fin 276, Place.tabY (tabs m) (ValueIdx.ix1 n) = BitVec.ofNat 32 (ny (item n) (camera n)).val.div2 := by
    intro n
    obtain ⟨b, k, j, e⟩ := split n
    rw [tabY_apply m b k j n e, item_of b k j n e, camera_of b k j n e, (hn b k).2, Nat.div2_val]
    exact cornerWord_eq ⟨(ny b k).val, by omega⟩
  have hv : W7 m dev0 main_v19 = Place.canvases (fun n => ⟨(nx (item n) (camera n)).val.div2, by rw [Nat.div2_val]; omega⟩)
      (fun n => ⟨(ny (item n) (camera n)).val.div2, by rw [Nat.div2_val]; omega⟩) (at6 m dev0 main_v0) :=
    (Pipeline.afterRegion_arr (Place.dat1 (at6 m) (tabs m) dev0) (W6 m dev0) (launch1 (F := F)).win.arr_inj 1).trans
      (Place.arr_out (at6 m) (tabs m) dev0 _ _ hX hY)
  refine (ops2_v20 (W7 m dev0)).trans ?_
  rw [hv, at6_v0]
  funext i
  obtain ⟨b, k, j, r, q, rfl⟩ : ∃ (b : Fin 2) (k : Fin 6) (j : Fin 23) (r : Fin 512) (q : Fin 640), i = ValueIdx.ix5 b k j r q :=
    ⟨i 0, i 1, i 2, i 3, i 4, ValueIdx.eq_ix5 i⟩
  have hb := b.isLt; have hk := k.isLt; have hj := j.isLt
  obtain ⟨n, e⟩ : ∃ n : Fin 276, n.val = (b.val * 6 + k.val) * 23 + j.val := ⟨⟨(b.val * 6 + k.val) * 23 + j.val, by omega⟩, rfl⟩
  refine (shapeCast_apply _ _ _ (ValueIdx.ix3 n r q) ?_).trans ?_
  · rw [Shape.rowMajor_val_three, Shape.rowMajor_val_five]
    show (n.val * 512 + r.val) * 640 + q.val = (((b.val * 6 + k.val) * 23 + j.val) * 512 + r.val) * 640 + q.val
    rw [e]
  rw [ReferenceIdeal.Place.v247_apply, ReferenceIdeal.Place.placed_apply _ _ b k (nx b k) (ny b k) (hn b k).1 (hn b k).2]
  show spot (ny (item n) (camera n)).val.div2 (nx (item n) (camera n)).val.div2 _ _ r.val q.val = _
  rw [item_of b k j n e, camera_of b k j n e, Nat.div2_val, Nat.div2_val]
  refine congrArg (fun f => spot _ _ f _ r.val q.val) (funext fun p => funext fun s => ?_)
  refine shapeCast_apply _ _ _ (ValueIdx.ix5 b k j p s) ?_
  rw [Shape.rowMajor_val_three, Shape.rowMajor_val_five]
  show (((b.val * 6 + k.val) * 23 + j.val) * 160 + p.val) * 160 + s.val = (n.val * 160 + p.val) * 160 + s.val
  rw [e]

end Cert.Values
-- ==== Proof.SoftArray.lean ====
/- The first kernel's two result arrays after all its points: the softplus of every volume, and every volume's row of coordinates. -/
module

public import proofs.«01_k».proof.Proof.SoftI
public import Idealize.ShloMosaic.Lib.Pipeline.Value
public import Idealize.ShloMosaic.Lib.ValueIdxRank6
public import Idealize.ShloMosaic.Lib.Pipeline.ValueKit.Geometry
public import Idealize.ShloMosaic.Lib.Pipeline.ValueKit.Tiles

@[expose] public section

set_option maxRecDepth 16384

noncomputable section

namespace Cert.KernelIdeal.Soft

open Idealize.ShloMosaic Idealize.ShloMosaic.TcCoe
open Idealize.SL Idealize.SL.RA Idealize.SL.Sem
open Idealize.ShloMosaic.Pipeline (Dat Cfg Window)
open Cert.KernelIdeal.Gen

variable {F : FTy → Type} [FloatOps F]

/-- The softplus of one value, as the kernel computes it. -/
def sp (v : F .f32) : F .f32 :=
  FloatOps.addf (FloatOps.maximumf v (FloatOps.ofBits .f32 0x00000000#32))
    (FloatOps.log1p (FloatOps.exp (FloatOps.subf (FloatOps.ofBits .f32 0x00000000#32) (FloatOps.absf v))))

/-- The row of coordinates of a volume of weights. -/
def row (v : Vec F S50x50x50 .f32) : Vec F S8x128 .f32 :=
  k0_pay14 (iota .tc S8x128 32 [1] iota_S8x128_d1_w32) (k0_pay2 (F := F)) v

/-- The kernel takes the softplus of a volume element by element. -/
theorem pay12_apply (v : Vec F S1x50x50x50 .f32) (x y z : Fin 50) :
    k0_pay12 v (ValueIdx.ix3 x y z) = sp (v (ValueIdx.ix4 (0 : Fin 1) x y z)) := by
  have e : shapeCast S50x50x50 v shapeCasts_S1x50x50x50_S50x50x50 (ValueIdx.ix3 x y z) = v (ValueIdx.ix4 (0 : Fin 1) x y z) := by
    refine shapeCast_apply _ _ _ _ ?_
    rw [Shape.rowMajor_val_three, Shape.rowMajor_val_four]
    show ((0 * 50 + x.val) * 50 + y.val) * 50 + z.val = (x.val * 50 + y.val) * 50 + z.val
    omega
  exact congrArg sp e

/-- Both volumes of a block go through the same operations. -/
theorem pay4_eq (v : Vec F S1x50x50x50 .f32) : k0_pay4 v = k0_pay13 v := rfl
theorem pay11_eq (v : Vec F S1x50x50x50 .f32) :
    k0_pay11 (iota .tc S8x128 32 [1] iota_S8x128_d1_w32) (k0_pay7 v) (k0_pay8 v) (k0_pay9 v) (k0_pay10 v) = k0_pay1 (row (k0_pay12 v)) := rfl

/-- What the softplus of a volume is stored as. -/
theorem pay13_apply (v : Vec F S1x50x50x50 .f32) (x y z : Fin 50) :
    k0_pay13 v (ValueIdx.ix4 (0 : Fin 1) x y z) = sp (v (ValueIdx.ix4 (0 : Fin 1) x y z)) := by
  refine (shapeCast_apply _ _ _ (ValueIdx.ix3 x y z) ?_).trans (pay12_apply v x y z)
  rw [Shape.rowMajor_val_three, Shape.rowMajor_val_four]
  show (x.val * 50 + y.val) * 50 + z.val = ((0 * 50 + x.val) * 50 + y.val) * 50 + z.val
  omega

/-- What a row of coordinates is stored as. -/
theorem pay1_apply (v : Vec F S8x128 .f32) (r : Fin 8) (q : Fin 128) : k0_pay1 v (ValueIdx.ix3 (0 : Fin 1) r q) = v (ValueIdx.ix2 r q) := by
  refine shapeCast_apply _ _ _ (ValueIdx.ix2 r q) ?_
  rw [Shape.rowMajor_val_two, Shape.rowMajor_val_three]
  show r.val * 128 + q.val = (0 * 8 + r.val) * 128 + q.val
  omega

/-- The softplus of volume `u` of a block. -/
def vol (x0 : Vec F S2x50x50x50 .f32) (u : Fin 2) : Vec F S50x50x50 .f32 := fun y => sp (x0 (ValueIdx.ix4 u (y 0) (y 1) (y 2)))

/-- A volume read alone, and its softplus. -/
theorem ld_0 (x0 : Vec F S2x50x50x50 .f32) (x y z : Fin 50) : View.ld x0 r0_0 (ValueIdx.ix4 (0 : Fin 1) x y z) = x0 (ValueIdx.ix4 (0 : Fin 2) x y z) :=
  congrArg x0 (funext fun a => Fin.ext (match a with
    | ⟨0, _⟩ => rfl
    | ⟨1, _⟩ => by show 0 + 1 * x.val = x.val; omega
    | ⟨2, _⟩ => by show 0 + 1 * y.val = y.val; omega
    | ⟨3, _⟩ => by show 0 + 1 * z.val = z.val; omega))
theorem ld_1 (x0 : Vec F S2x50x50x50 .f32) (x y z : Fin 50) : View.ld x0 r0_2 (ValueIdx.ix4 (0 : Fin 1) x y z) = x0 (ValueIdx.ix4 (1 : Fin 2) x y z) :=
  congrArg x0 (funext fun a => Fin.ext (match a with
    | ⟨0, _⟩ => rfl
    | ⟨1, _⟩ => by show 0 + 1 * x.val = x.val; omega
    | ⟨2, _⟩ => by show 0 + 1 * y.val = y.val; omega
    | ⟨3, _⟩ => by show 0 + 1 * z.val = z.val; omega))
theorem vol_0 (x0 : Vec F S2x50x50x50 .f32) : k0_pay12 (View.ld x0 r0_0) = vol x0 0 := by
  funext i
  obtain ⟨x, y, z, rfl⟩ : ∃ (x y z : Fin 50), i = ValueIdx.ix3 x y z := ⟨i 0, i 1, i 2, ValueIdx.eq_ix3 i⟩
  exact (pay12_apply _ x y z).trans (congrArg sp (ld_0 x0 x y z))
theorem vol_1 (x0 : Vec F S2x50x50x50 .f32) : k0_pay12 (View.ld x0 r0_2) = vol x0 1 := by
  funext i
  obtain ⟨x, y, z, rfl⟩ : ∃ (x y z : Fin 50), i = ValueIdx.ix3 x y z := ⟨i 0, i 1, i 2, ValueIdx.eq_ix3 i⟩
  exact (pay12_apply _ x y z).trans (congrArg sp (ld_1 x0 x y z))

/-- The softplus block, element by element. -/
theorem out0_1_apply (x0 : Vec F S2x50x50x50 .f32) (i : S2x50x50x50.Idx) : out0_1 x0 i = sp (x0 i) := by
  refine View.canon_eq_of_allAt _ i _ (cover0_1 _ _ i) (View.allAt_cons _ _ _ ?_ (View.allAt_cons _ _ _ ?_ (View.allAt_nil _ _)))
  · rintro y rfl
    change S1x50x50x50.Idx at y
    obtain ⟨u, p, q, r, rfl⟩ : ∃ (u : Fin 1) (p q r : Fin 50), y = ValueIdx.ix4 u p q r := ⟨y 0, y 1, y 2, y 3, ValueIdx.eq_ix4 y⟩
    obtain rfl : u = 0 := Subsingleton.elim _ _
    exact pay13_apply _ p q r
  · rintro y rfl
    change S1x50x50x50.Idx at y
    obtain ⟨u, p, q, r, rfl⟩ : ∃ (u : Fin 1) (p q r : Fin 50), y = ValueIdx.ix4 u p q r := ⟨y 0, y 1, y 2, y 3, ValueIdx.eq_ix4 y⟩
    obtain rfl : u = 0 := Subsingleton.elim _ _
    exact (congrFun (pay4_eq _) _).trans (pay13_apply _ p q r)

/-- The coordinates' block, volume by volume. -/
theorem out0_2_apply (x0 : Vec F S2x50x50x50 .f32) (u : Fin 2) (r : Fin 8) (q : Fin 128) :
    out0_2 x0 (ValueIdx.ix3 u r q) = row (vol x0 u) (ValueIdx.ix2 r q) := by
  refine View.canon_eq_of_allAt _ _ _ (cover0_2 _ _ _) (View.allAt_cons_unit _ _ _ _ _ ?_ (View.allAt_cons_unit _ _ _ _ _ ?_ (View.allAt_nil _ _)))
  · intro y hy
    change S1x8x128.Idx at y
    obtain ⟨w, r', q', rfl⟩ : ∃ (w : Fin 1) (r' : Fin 8) (q' : Fin 128), y = ValueIdx.ix3 w r' q' := ⟨y 0, y 1, y 2, ValueIdx.eq_ix3 y⟩
    obtain rfl : w = 0 := Subsingleton.elim _ _
    obtain rfl : u = 1 := Fin.ext (by have := hy 0; exact this)
    obtain rfl : r' = r := Fin.ext (by have : r.val = 0 + r'.val := hy 1; omega)
    obtain rfl : q' = q := Fin.ext (by have : q.val = 0 + q'.val := hy 2; omega)
    exact (pay1_apply _ r' q').trans (congrFun (congrArg row (vol_1 x0)) _)
  · intro y hy
    change S1x8x128.Idx at y
    obtain ⟨w, r', q', rfl⟩ : ∃ (w : Fin 1) (r' : Fin 8) (q' : Fin 128), y = ValueIdx.ix3 w r' q' := ⟨y 0, y 1, y 2, ValueIdx.eq_ix3 y⟩
    obtain rfl : w = 0 := Subsingleton.elim _ _
    obtain rfl : u = 0 := Fin.ext (by have := hy 0; exact this)
    obtain rfl : r' = r := Fin.ext (by have : r.val = 0 + r'.val := hy 1; omega)
    obtain rfl : q' = q := Fin.ext (by have : q.val = 0 + q'.val := hy 2; omega)
    exact (congrFun (pay11_eq _) _).trans ((pay1_apply _ r' q').trans (congrFun (congrArg row (vol_0 x0)) _))

variable (V : (c : Dev nD) → (b : Ref sig .tc) → Buf (Elt F) ((c : Thread nD τ).loc b))

/-- Both results' blocks cover their arrays. -/
theorem covers_1 : win0_1.Covers := by decide +kernel
theorem covers_2 : win0_2.Covers := by decide +kernel

/-- A block of any window at a point starts at twice the point. -/
theorem index_0 : ∀ t : Fin grid0.N, win0_0.index t = ![(grid0.coords t 0).val, 0, 0, 0] := by decide +kernel
theorem index_1 : ∀ t : Fin grid0.N, win0_1.index t = ![(grid0.coords t 0).val, 0, 0, 0] := by decide +kernel
theorem index_2 : ∀ t : Fin grid0.N, win0_2.index t = ![(grid0.coords t 0).val, 0, 0] := by decide +kernel

/-- Where an element of a block at a point lies in the array. -/
theorem emb_0 (t : Fin grid0.N) (u : Fin 2) (x y z : Fin 50) (n : Fin 46) (hn : n.val = 2 * (grid0.coords t 0).val + u.val) :
    (win0_0.blk t).view.emb (ValueIdx.ix4 u x y z) = ValueIdx.ix4 n x y z := by
  blk_ext [index_0]
  show (grid0.coords t 0).val * 2 + u.val = n.val
  omega
theorem emb_1 (t : Fin grid0.N) (u : Fin 2) (x y z : Fin 50) (n : Fin 46) (hn : n.val = 2 * (grid0.coords t 0).val + u.val) :
    (win0_1.blk t).view.emb (ValueIdx.ix4 u x y z) = ValueIdx.ix4 n x y z := by
  blk_ext [index_1]
  show (grid0.coords t 0).val * 2 + u.val = n.val
  omega
theorem emb_2 (t : Fin grid0.N) (u : Fin 2) (r : Fin 8) (q : Fin 128) (n : Fin 46) (hn : n.val = 2 * (grid0.coords t 0).val + u.val) :
    (win0_2.blk t).view.emb (ValueIdx.ix3 u r q) = ValueIdx.ix3 n r q := by
  blk_ext [index_2]
  show (grid0.coords t 0).val * 2 + u.val = n.val
  omega

/-- Volume `u` of the block at a point is volume `2 t + u` of the array. -/
theorem iblk0_apply (c : Dev nD) (t : Fin cfg0.N) (u : Fin 2) (x y z : Fin 50) (n : Fin 46) (hn : n.val = 2 * (grid0.coords t 0).val + u.val) :
    iblk0 V c 0 t (ValueIdx.ix4 u x y z) = V c main_v17 (ValueIdx.ix4 n x y z) :=
  congrArg (V c main_v17) (emb_0 t u x y z n hn)

/-- The softplus of all volumes, and all their rows of coordinates. -/
def softs (x : Vec F S46x50x50x50 .f32) : Vec F S46x50x50x50 .f32 := fun i => sp (x i)
def rows (x : Vec F S46x50x50x50 .f32) : Vec F S46x8x128 .f32 := fun i =>
  row (fun y => sp (x (ValueIdx.ix4 (i 0) (y 0) (y 1) (y 2)))) (ValueIdx.ix2 (i 1) (i 2))

/-- A block of softplus values lies in the array as its position says. -/
theorem block_1 (c : Dev nD) (t : Fin cfg0.N) (y : S2x50x50x50.Idx) :
    out0_1 (iblk0 V c 0 t) y = softs (V c main_v17) ((win0_1.blk t).view.emb y) := by
  have hc : (grid0.coords t 0).val < 23 := (grid0.coords t 0).isLt
  have hu : (y 0).val < 2 := (y 0).isLt
  have e := emb_1 t (y 0) (y 1) (y 2) (y 3) ⟨2 * (grid0.coords t 0).val + (y 0).val, by omega⟩ rfl
  have e' := iblk0_apply V c t (y 0) (y 1) (y 2) (y 3) ⟨2 * (grid0.coords t 0).val + (y 0).val, by omega⟩ rfl
  have hy := ValueIdx.eq_ix4 y
  have k := (out0_1_apply (iblk0 V c 0 t) y).trans (congrArg sp ((congrArg (iblk0 V c 0 t) hy).trans e'))
  have k' := congrArg (softs (V c main_v17)) ((congrArg (win0_1.blk t).view.emb hy).trans e)
  exact k.trans k'.symm

/-- So does a block of rows. -/
theorem block_2 (c : Dev nD) (t : Fin cfg0.N) (y : S2x8x128.Idx) :
    out0_2 (iblk0 V c 0 t) y = rows (V c main_v17) ((win0_2.blk t).view.emb y) := by
  have hc : (grid0.coords t 0).val < 23 := (grid0.coords t 0).isLt
  have hu : (y 0).val < 2 := (y 0).isLt
  have e := emb_2 t (y 0) (y 1) (y 2) ⟨2 * (grid0.coords t 0).val + (y 0).val, by omega⟩ rfl
  have hy := ValueIdx.eq_ix3 y
  have k := (congrArg (out0_2 (iblk0 V c 0 t)) hy).trans (out0_2_apply (iblk0 V c 0 t) (y 0) (y 1) (y 2))
  have k' := congrArg (rows (V c main_v17)) ((congrArg (win0_2.blk t).view.emb hy).trans e)
  refine (k.trans ?_).trans k'.symm
  refine congrFun (congrArg row (funext fun i => ?_)) (ValueIdx.ix2 (y 1) (y 2))
  exact congrArg sp (iblk0_apply V c t (y 0) (i 0) (i 1) (i 2) _ rfl)

/-- The array of softplus values after every point. -/
theorem arr_1 (c : Dev nD) : (dat0 V c).arrAt 1 cfg0.N = softs (V c main_v17) :=
  (dat0 V c).arrAt_eq_of_covers 1 _ covers_1 (fun t _ y => (congrFun (after0_1 V c t) y).trans (block_1 V c t y)) (Memref.isWhole_whole _)

/-- The array of rows of coordinates after every point. -/
theorem arr_2 (c : Dev nD) : (dat0 V c).arrAt 2 cfg0.N = rows (V c main_v17) :=
  (dat0 V c).arrAt_eq_of_covers 2 _ covers_2 (fun t _ y => (congrFun (after0_2 V c t) y).trans (block_2 V c t y)) (Memref.isWhole_whole _)

end Cert.KernelIdeal.Soft
-- ==== Proof.Sums.lean ====
/- Sums over a reduction's fibers at the ideal values, and the centre of mass of a volume of weights: its total and its three moments. -/
module

public import Idealize.ShloMosaic.PureOps.Ideal.Laws
public import Idealize.ShloMosaic.Lib.IdealHost
public import Idealize.ShloMosaic.Lib.ValueIdxRank6

@[expose] public section

set_option maxRecDepth 16384

noncomputable section

namespace Cert.Sums

open Idealize.ShloMosaic

/-- A sum over the elements satisfying `p`, when these are the values of `g`, one for each `b`. -/
theorem sum_fiber {ι β M : Type} [Fintype ι] [Fintype β] [AddCommMonoid M] (p : ι → Prop) [DecidablePred p] (g : β → ι) (f : ι → β)
    (hp : ∀ b, p (g b)) (hl : ∀ b, f (g b) = b) (hr : ∀ i, p i → g (f i) = i) (x : ι → M) :
    ∑ i ∈ Finset.univ.filter p, x i = ∑ b, x (g b) :=
  Finset.sum_bij' (fun i _ => f i) (fun b _ => g b) (fun _ _ => Finset.mem_univ _) (fun b _ => Finset.mem_filter.mpr ⟨Finset.mem_univ _, hp b⟩)
    (fun i hi => hr i (Finset.mem_filter.mp hi).2) (fun b _ => hl b) (fun i hi => congrArg x (hr i (Finset.mem_filter.mp hi).2).symm)

/-- The coordinate `k` as a value. -/
def coord (k : Fin 50) : EReal := FloatOps.sitofp (F := Ideal) .f32 (BitVec.ofNat 32 k.val)

/-- A volume's total. -/
def total (f : Fin 50 → Fin 50 → Fin 50 → EReal) : EReal := ∑ z, ∑ y, ∑ x, f x y z

/-- A volume's moment along axis `l`: each of the axis's planes, summed, times its coordinate. -/
def moment (f : Fin 50 → Fin 50 → Fin 50 → EReal) (l : Fin 3) : EReal :=
  match l with
  | ⟨0, _⟩ => ∑ x, (∑ y, ∑ z, f x y z) * coord x
  | ⟨1, _⟩ => ∑ y, (∑ z, ∑ x, f x y z) * coord y
  | ⟨2, _⟩ => ∑ z, (∑ y, ∑ x, f x y z) * coord z

/-- Dividing by a nonzero value is multiplying by its reciprocal. -/
theorem mul_recip (a n : EReal) (h : n ≠ 0) : a * Ideal.div 1 n = Ideal.div a n := by
  unfold Ideal.div
  rw [if_neg h, if_neg h, one_mul]

/-- A total of values from zero up, one of them above zero, is not zero. -/
theorem total_ne_zero (f : Fin 50 → Fin 50 → Fin 50 → EReal) (h0 : ∀ x y z, 0 ≤ f x y z) (x y z : Fin 50) (h : 0 < f x y z) : total f ≠ 0 := by
  have e1 : f x y z ≤ ∑ x, f x y z := Finset.single_le_sum (f := fun x => f x y z) (fun i _ => h0 i y z) (Finset.mem_univ x)
  have e2 : ∑ x, f x y z ≤ ∑ y, ∑ x, f x y z :=
    Finset.single_le_sum (f := fun y => ∑ x, f x y z) (fun i _ => Finset.sum_nonneg fun k _ => h0 k i z) (Finset.mem_univ y)
  have e3 : ∑ y, ∑ x, f x y z ≤ ∑ z, ∑ y, ∑ x, f x y z :=
    Finset.single_le_sum (f := fun z => ∑ y, ∑ x, f x y z) (fun i _ => Finset.sum_nonneg fun j _ => Finset.sum_nonneg fun k _ => h0 k j i) (Finset.mem_univ z)
  exact (lt_of_lt_of_le h (e1.trans (e2.trans e3))).ne'

/-- The softplus of an ideal value. -/
def softplus (v : EReal) : EReal := max v 0 + Ideal.log1p (Ideal.exp (-(max v (-v))))

/-- The exponential of anything is at least zero. -/
theorem exp_nonneg (v : EReal) : 0 ≤ Ideal.exp v := by
  induction v with
  | bot => exact le_refl _
  | top => exact le_top
  | coe r => exact EReal.coe_nonneg.mpr (Real.exp_nonneg r)

/-- The logarithm of one more than a value from zero up is at least zero. -/
theorem log1p_nonneg (v : EReal) (h : 0 ≤ v) : 0 ≤ Ideal.log1p v := by
  induction v with
  | bot => exact absurd h (by simp)
  | top => exact le_top
  | coe r =>
    have hr : 0 ≤ r := EReal.coe_nonneg.mp h
    show 0 ≤ Ideal.log (((1 : ℝ) : EReal) + (r : EReal))
    rw [← EReal.coe_add]
    show 0 ≤ if 1 + r ≤ 0 then ⊥ else ((Real.log (1 + r) : ℝ) : EReal)
    rw [if_neg (by linarith)]
    exact EReal.coe_nonneg.mpr (Real.log_nonneg (by linarith))

/-- The softplus is at least zero. -/
theorem softplus_nonneg (v : EReal) : 0 ≤ softplus v :=
  add_nonneg (le_max_right _ _) (log1p_nonneg _ (exp_nonneg _))

/-- Above minus infinity it is above zero. -/
theorem softplus_pos (v : EReal) (h : ⊥ < v) : 0 < softplus v := by
  induction v with
  | bot => exact absurd h (lt_irrefl _)
  | top =>
    refine lt_of_lt_of_le (b := max (⊤ : EReal) 0) (lt_of_lt_of_le EReal.zero_lt_top (le_max_left _ _)) ?_
    exact le_add_of_nonneg_right (log1p_nonneg _ (exp_nonneg _))
  | coe r =>
    have e : (-(max (r : EReal) (-(r : EReal)))) = ((-(max r (-r)) : ℝ) : EReal) := by
      rw [EReal.coe_neg, EReal.coe_strictMono.monotone.map_max, EReal.coe_neg]
    have p : 0 < Ideal.log1p (Ideal.exp (-(max (r : EReal) (-(r : EReal))))) := by
      rw [e]
      show 0 < Ideal.log (((1 : ℝ) : EReal) + ((Real.exp (-(max r (-r))) : ℝ) : EReal))
      rw [← EReal.coe_add]
      have hp := Real.exp_pos (-(max r (-r)))
      show 0 < if 1 + Real.exp (-(max r (-r))) ≤ 0 then ⊥ else ((Real.log (1 + Real.exp (-(max r (-r)))) : ℝ) : EReal)
      rw [if_neg (by linarith)]
      exact EReal.coe_pos.mpr (Real.log_pos (by linarith))
    exact lt_of_lt_of_le p (le_add_of_nonneg_left (le_max_right _ _))

end Cert.Sums
-- ==== Proof.RowValue.lean ====
/- The first kernel's arithmetic at the ideal values: the softplus of an element, and the row of coordinates of a volume of weights, which holds in its
   first three lanes the volume's moments times the reciprocal of its total. -/
module

public import proofs.«01_k».proof.Proof.SoftArray
public import proofs.«01_k».proof.Proof.Sums

@[expose] public section

set_option maxRecDepth 16384

noncomputable section

namespace Cert.KernelIdeal.Soft

open Idealize.ShloMosaic Idealize.ShloMosaic.TcCoe
open Cert.KernelIdeal.Gen Cert.Sums

/-- The kernel's softplus at the ideal values. -/
theorem sp_ideal (v : EReal) : sp (F := Ideal) v = softplus v := by
  show max v (Ideal.ofBits .f32 0x00000000#32) + Ideal.log1p (Ideal.exp (Ideal.ofBits .f32 0x00000000#32 - max v (-v))) = softplus v
  rw [Ideal.ofBits_zero_f32, zero_sub]
  rfl

/-- The sum of fifty values, as the kernel takes it: through a one-row matrix. -/
def tot (u : FVec Ideal S50 .f32) : EReal :=
  extractAt ![0, 0] (shapeCast S1x1 (multiReduction .add [1] S1 (shapeCast S1x50 u shapeCasts_S50_S1x50) 0x00000000#32 reduces_S1x50_S1 (.inl rfl) rfl)
    shapeCasts_S1_S1x1) inpos_S1x1_p0_0

theorem tot_eq (u : FVec Ideal S50 .f32) : tot u = ∑ k : Fin 50, u (ValueIdx.ix1 k) := by
  unfold tot
  refine (shapeCast_apply _ _ _ (ValueIdx.ix1 (0 : Fin 1)) ?_).trans ?_
  · rw [Shape.rowMajor_val_one, Shape.rowMajor_val_two]; rfl
  refine (Ideal.multiReduction_add_single _ _ reduces_S1x50_S1 _ _ _).trans (Finset.sum_congr rfl fun k _ => ?_)
  refine shapeCast_apply _ _ _ (ValueIdx.ix1 (k : Fin 50)) ?_
  rw [Shape.rowMajor_val_one, Shape.rowMajor_val_two]
  show k.val = 0 * 50 + k.val
  omega

variable (v : Vec Ideal S50x50x50 .f32)

/-- The volume's sums over its first axis, and from these over either of the others; and over its last two axes. -/
def s0 : FVec Ideal S50x50 .f32 := multiReduction (F := Ideal) .add [0] S50x50 v 0x00000000#32 reduces_S50x50x50_S50x50 (.inl rfl) rfl
def s02 : FVec Ideal S50 .f32 := multiReduction (F := Ideal) .add [1] S50 (s0 v) 0x00000000#32 reduces_S50x50_S50 (.inl rfl) rfl
def s01 : FVec Ideal S50 .f32 := multiReduction (F := Ideal) .add [0] S50 (s0 v) 0x00000000#32 reduces_S50x50_S50_2 (.inl rfl) rfl
def s12 : FVec Ideal S50 .f32 := multiReduction (F := Ideal) .add [1, 2] S50 v 0x00000000#32 reduces_S50x50x50_S50 (.inl rfl) rfl

theorem s0_apply (y z : Fin 50) : s0 v (ValueIdx.ix2 y z) = ∑ x : Fin 50, v (ValueIdx.ix3 x y z) := by
  refine (Ideal.multiReduction_add_single _ _ reduces_S50x50x50_S50x50 _ _ _).trans (Finset.sum_congr rfl fun k _ => congrArg v ?_)
  exact funext fun a => Fin.ext (match a with | ⟨0, _⟩ => rfl | ⟨1, _⟩ => rfl | ⟨2, _⟩ => rfl)
theorem s02_apply (y : Fin 50) : s02 v (ValueIdx.ix1 y) = ∑ z : Fin 50, ∑ x : Fin 50, v (ValueIdx.ix3 x y z) := by
  refine (Ideal.multiReduction_add_single _ _ reduces_S50x50_S50 _ _ _).trans (Finset.sum_congr rfl fun k _ => ?_)
  have e : reduces_S50x50_S50.lift (ValueIdx.ix1 y) k = ValueIdx.ix2 y (k : Fin 50) := funext fun a => Fin.ext (match a with | ⟨0, _⟩ => rfl | ⟨1, _⟩ => rfl)
  exact (congrArg (s0 v) e).trans (s0_apply v y k)
theorem s01_apply (z : Fin 50) : s01 v (ValueIdx.ix1 z) = ∑ y : Fin 50, ∑ x : Fin 50, v (ValueIdx.ix3 x y z) := by
  refine (Ideal.multiReduction_add_single _ _ reduces_S50x50_S50_2 _ _ _).trans (Finset.sum_congr rfl fun k _ => ?_)
  have e : reduces_S50x50_S50_2.lift (ValueIdx.ix1 z) k = ValueIdx.ix2 (k : Fin 50) z := funext fun a => Fin.ext (match a with | ⟨0, _⟩ => rfl | ⟨1, _⟩ => rfl)
  exact (congrArg (s0 v) e).trans (s0_apply v k z)
theorem s12_apply (x : Fin 50) : s12 v (ValueIdx.ix1 x) = ∑ y : Fin 50, ∑ z : Fin 50, v (ValueIdx.ix3 x y z) := by
  refine (sum_fiber (fun i => reduces_S50x50x50_S50.drop i = ValueIdx.ix1 x) (fun b : Fin 50 × Fin 50 => ValueIdx.ix3 x b.1 b.2) (fun i => (i 1, i 2))
    (fun b => funext fun a => Fin.ext (match a with | ⟨0, _⟩ => rfl)) (fun _ => rfl) (fun i hi => ?_) v).trans (Fintype.sum_prod_type _)
  have e : i 0 = x := congrFun hi 0
  rw [← e]
  exact (ValueIdx.eq_ix3 i).symm

/-- The coordinates that the kernel multiplies by. -/
theorem pay2_apply (k : Fin 50) : k0_pay2 (F := Ideal) (ValueIdx.ix1 k) = coord k := by
  refine congrArg (FloatOps.sitofp (F := Ideal) .f32) ?_
  refine (shapeCast_apply _ _ (ValueIdx.ix1 k) (ValueIdx.ix2 (0 : Fin 1) k) ?_).trans (congrArg (BitVec.ofNat 32) ?_)
  · rw [Shape.rowMajor_val_one, Shape.rowMajor_val_two]
    show 0 * 50 + k.val = k.val
    omega
  · show 0 * 50 + k.val = k.val
    omega

/-- The reciprocal of the total, and one coordinate from its axis's sums. -/
def recip : EReal := Ideal.div (Ideal.ofBits .f32 0x3F800000#32) (tot (s01 v))
def along (s : FVec Ideal S50 .f32) : EReal := tot (fun i => s i * k0_pay2 (F := Ideal) i) * recip v

theorem along_eq (s : FVec Ideal S50 .f32) : along v s = (∑ k : Fin 50, s (ValueIdx.ix1 k) * coord k) * Ideal.div 1 (total fun x y z => v (ValueIdx.ix3 x y z)) := by
  unfold along recip
  rw [tot_eq, tot_eq, Ideal.ofBits_one_f32, Finset.sum_congr rfl fun k _ => s01_apply v k, Finset.sum_congr rfl fun k _ => congrArg (s (ValueIdx.ix1 k) * ·) (pay2_apply k)]
  rfl

/-- A row of coordinates, lane by lane. -/
theorem row_lane (r : Fin 8) (q : Fin 128) : row v (ValueIdx.ix2 r q) =
    (Scalar.select (IntOp.cmpi .eq (BitVec.ofNat 32 q.val) 0#32) (along v (s12 v)) (Ideal.ofBits .f32 0x00000000#32)
      + Scalar.select (IntOp.cmpi .eq (BitVec.ofNat 32 q.val) 1#32) (along v (s02 v)) (Ideal.ofBits .f32 0x00000000#32))
      + Scalar.select (IntOp.cmpi .eq (BitVec.ofNat 32 q.val) 2#32) (along v (s01 v)) (Ideal.ofBits .f32 0x00000000#32) := by
  rw [← show iota .tc S8x128 32 [1] iota_S8x128_d1_w32 (ValueIdx.ix2 r q) = BitVec.ofNat 32 q.val from
    congrArg (BitVec.ofNat 32) (by show 0 * 128 + q.val = q.val; omega)]
  rfl

/-- The first three lanes hold the moments times the reciprocal of the total. -/
theorem row_apply (r : Fin 8) (l : Fin 3) : row v (ValueIdx.ix2 r (⟨l.val, by omega⟩ : Fin 128)) =
    moment (fun x y z => v (ValueIdx.ix3 x y z)) l * Ideal.div 1 (total fun x y z => v (ValueIdx.ix3 x y z)) := by
  rw [row_lane, Ideal.ofBits_zero_f32]
  match l with
  | ⟨0, _⟩ =>
    show (along v (s12 v) + 0) + 0 = _
    rw [add_zero, add_zero, along_eq, Finset.sum_congr rfl fun k _ => congrArg (· * coord k) (s12_apply v k)]
    rfl
  | ⟨1, _⟩ =>
    show (0 + along v (s02 v)) + 0 = _
    rw [add_zero, zero_add, along_eq, Finset.sum_congr rfl fun k _ => congrArg (· * coord k) (s02_apply v k)]
    rfl
  | ⟨2, _⟩ =>
    show (0 + 0) + along v (s01 v) = _
    rw [add_zero, zero_add, along_eq, Finset.sum_congr rfl fun k _ => congrArg (· * coord k) (s01_apply v k)]
    rfl

end Cert.KernelIdeal.Soft
-- ==== Proof.RefPoints.lean ====
/- The reference's softplus and centres of mass at the ideal values, at an index. -/
module

public import proofs.«01_k».proof.Proof.Sums
public import proofs.«01_k».proof.Proof.Gen.ReferenceIdeal.Read
public import Idealize.ShloMosaic.Lib.Pipeline.Value

@[expose] public section

set_option maxRecDepth 16384

noncomputable section

namespace Cert.ReferenceIdeal.Points

open Idealize.ShloMosaic Idealize.ShloMosaic.TcCoe
open Cert.ReferenceIdeal.Gen Cert.ReferenceIdeal.Read Cert.Sums

variable (x1 : FVec Ideal S2x23x50x50x50 .f32)

/-- The reference's softplus: no ideal value differs from itself, so its guard never applies. -/
theorem v248_apply (i : S2x23x50x50x50.Idx) : val_main_v248 (F := Ideal) x1 i = softplus (x1 i) := by
  have hd : x1 i - (0 : EReal) = x1 i := by rw [sub_eq_add_neg, neg_zero, add_zero]
  rw [val_main_v248_apply, val_main_call1_v4_apply, val_main_call1_v11_apply, val_main_call1_v10_apply, val_main_call1_v9_apply, val_main_call1_v8_apply,
    val_main_call1_v7_apply, val_main_call1_v1_apply, val_main_call1_v3_apply, val_main_call1_v0_apply, val_main_call1_v2_apply, val_main_call1_cst_apply]
  show Scalar.select (BitVec.ofBool (decide (_ ≠ _))) _ (max (x1 i) (Ideal.ofBits .f32 0x00000000#32)
    + Ideal.log1p (Ideal.exp (-(max (x1 i - Ideal.ofBits .f32 0x00000000#32) (-(x1 i - Ideal.ofBits .f32 0x00000000#32)))))) = _
  rw [Ideal.ofBits_zero_f32, hd]
  simp only [ne_eq, not_true_eq_false, decide_false]
  rfl

/-- The weights of the volume of item `b` and joint `j`. -/
def weights (b : Fin 2) (j : Fin 23) (x y z : Fin 50) : EReal := val_main_v248 (F := Ideal) x1 (ValueIdx.ix5 b j x y z)

/-- A volume's index is its item, its joint and its three coordinates. -/
theorem of_item {b : Fin 2} {j : Fin 23} (i : S2x23x50x50x50.Idx) (h0 : i 0 = b) (h1 : i 1 = j) : ValueIdx.ix5 b j (i 2) (i 3) (i 4) = i := by
  rw [← h0, ← h1]; exact (ValueIdx.eq_ix5 i).symm

/-- The total. -/
theorem v249_apply (b : Fin 2) (j : Fin 23) : val_main_v249 (F := Ideal) x1 (ValueIdx.ix2 b j) = total (weights x1 b j) := by
  show Ideal.ofBits .f32 0x00000000#32 + (∑ i ∈ Finset.univ.filter _, val_main_v248 (F := Ideal) x1 i) = _
  rw [Ideal.ofBits_zero_f32, zero_add]
  refine (sum_fiber (fun i => reducesTo_S2x23x50x50x50_S2x23_d2_3_4.drop i = ValueIdx.ix2 b j) (fun k : Fin 50 × Fin 50 × Fin 50 => ValueIdx.ix5 b j k.2.2 k.2.1 k.1)
    (fun i => (i 4, i 3, i 2)) (fun k => funext fun a => Fin.ext (match a with | ⟨0, _⟩ => rfl | ⟨1, _⟩ => rfl)) (fun _ => rfl)
    (fun i hi => of_item i (congrFun hi 0) (congrFun hi 1)) _).trans ?_
  rw [Fintype.sum_prod_type]
  exact Finset.sum_congr rfl fun z _ => Fintype.sum_prod_type _

/-- The planes' sums along each axis. -/
theorem v251_apply (b : Fin 2) (j : Fin 23) (x : Fin 50) : val_main_v251 (F := Ideal) x1 (ValueIdx.ix3 b j x) = ∑ y, ∑ z, weights x1 b j x y z := by
  show Ideal.ofBits .f32 0x00000000#32 + (∑ i ∈ Finset.univ.filter _, val_main_v248 (F := Ideal) x1 i) = _
  rw [Ideal.ofBits_zero_f32, zero_add]
  refine (sum_fiber (fun i => reducesTo_S2x23x50x50x50_S2x23x50_d3_4.drop i = ValueIdx.ix3 b j x) (fun k : Fin 50 × Fin 50 => ValueIdx.ix5 b j x k.1 k.2)
    (fun i => (i 3, i 4)) (fun k => funext fun a => Fin.ext (match a with | ⟨0, _⟩ => rfl | ⟨1, _⟩ => rfl | ⟨2, _⟩ => rfl)) (fun _ => rfl) (fun i hi => ?_) _).trans
      (Fintype.sum_prod_type _)
  have e : i 2 = x := congrFun hi 2
  rw [← e]; exact of_item i (congrFun hi 0) (congrFun hi 1)
theorem v252_apply (b : Fin 2) (j : Fin 23) (y : Fin 50) : val_main_v252 (F := Ideal) x1 (ValueIdx.ix3 b j y) = ∑ z, ∑ x, weights x1 b j x y z := by
  show Ideal.ofBits .f32 0x00000000#32 + (∑ i ∈ Finset.univ.filter _, val_main_v248 (F := Ideal) x1 i) = _
  rw [Ideal.ofBits_zero_f32, zero_add]
  refine (sum_fiber (fun i => reducesTo_S2x23x50x50x50_S2x23x50_d2_4.drop i = ValueIdx.ix3 b j y) (fun k : Fin 50 × Fin 50 => ValueIdx.ix5 b j k.2 y k.1)
    (fun i => (i 4, i 2)) (fun k => funext fun a => Fin.ext (match a with | ⟨0, _⟩ => rfl | ⟨1, _⟩ => rfl | ⟨2, _⟩ => rfl)) (fun _ => rfl) (fun i hi => ?_) _).trans
      (Fintype.sum_prod_type _)
  have e : i 3 = y := congrFun hi 2
  rw [← e]; exact of_item i (congrFun hi 0) (congrFun hi 1)
theorem v253_apply (b : Fin 2) (j : Fin 23) (z : Fin 50) : val_main_v253 (F := Ideal) x1 (ValueIdx.ix3 b j z) = ∑ y, ∑ x, weights x1 b j x y z := by
  show Ideal.ofBits .f32 0x00000000#32 + (∑ i ∈ Finset.univ.filter _, val_main_v248 (F := Ideal) x1 i) = _
  rw [Ideal.ofBits_zero_f32, zero_add]
  refine (sum_fiber (fun i => reducesTo_S2x23x50x50x50_S2x23x50_d2_3.drop i = ValueIdx.ix3 b j z) (fun k : Fin 50 × Fin 50 => ValueIdx.ix5 b j k.2 k.1 z)
    (fun i => (i 3, i 2)) (fun k => funext fun a => Fin.ext (match a with | ⟨0, _⟩ => rfl | ⟨1, _⟩ => rfl | ⟨2, _⟩ => rfl)) (fun _ => rfl) (fun i hi => ?_) _).trans
      (Fintype.sum_prod_type _)
  have e : i 4 = z := congrFun hi 2
  rw [← e]; exact of_item i (congrFun hi 0) (congrFun hi 1)

/-- The three centres before scaling: each moment divided by the total. -/
theorem v258_apply (b : Fin 2) (j : Fin 23) : val_main_v258 (F := Ideal) x1 (ValueIdx.ix2 b j) = Ideal.div (moment (weights x1 b j) 0) (total (weights x1 b j)) := by
  rw [val_main_v258_apply, v249_apply, val_main_v257_apply]
  refine congrArg (fun a => Ideal.div a (total (weights x1 b j))) ?_
  refine (congrArg (· + _) Ideal.ofBits_zero_f32).trans ((zero_add _).trans (Finset.sum_congr rfl fun k _ => ?_))
  rw [val_main_v256_apply, val_main_v255_apply, val_main_v254_apply]
  have e : idx_main_v257 (ValueIdx.ix2 b j) k = ValueIdx.ix3 b j k := funext fun a => Fin.ext (match a with | ⟨0, _⟩ => rfl | ⟨1, _⟩ => rfl | ⟨2, _⟩ => rfl)
  exact congrArg (· * coord k) ((congrArg (val_main_v251 (F := Ideal) x1) e).trans (v251_apply x1 b j k))
theorem v263_apply (b : Fin 2) (j : Fin 23) : val_main_v263 (F := Ideal) x1 (ValueIdx.ix2 b j) = Ideal.div (moment (weights x1 b j) 1) (total (weights x1 b j)) := by
  rw [val_main_v263_apply, v249_apply, val_main_v262_apply]
  refine congrArg (fun a => Ideal.div a (total (weights x1 b j))) ?_
  refine (congrArg (· + _) Ideal.ofBits_zero_f32).trans ((zero_add _).trans (Finset.sum_congr rfl fun k _ => ?_))
  rw [val_main_v261_apply, val_main_v260_apply, val_main_v259_apply]
  have e : idx_main_v262 (ValueIdx.ix2 b j) k = ValueIdx.ix3 b j k := funext fun a => Fin.ext (match a with | ⟨0, _⟩ => rfl | ⟨1, _⟩ => rfl | ⟨2, _⟩ => rfl)
  exact congrArg (· * coord k) ((congrArg (val_main_v252 (F := Ideal) x1) e).trans (v252_apply x1 b j k))
theorem v268_apply (b : Fin 2) (j : Fin 23) : val_main_v268 (F := Ideal) x1 (ValueIdx.ix2 b j) = Ideal.div (moment (weights x1 b j) 2) (total (weights x1 b j)) := by
  rw [val_main_v268_apply, v249_apply, val_main_v267_apply]
  refine congrArg (fun a => Ideal.div a (total (weights x1 b j))) ?_
  refine (congrArg (· + _) Ideal.ofBits_zero_f32).trans ((zero_add _).trans (Finset.sum_congr rfl fun k _ => ?_))
  rw [val_main_v266_apply, val_main_v265_apply, val_main_v264_apply]
  have e : idx_main_v267 (ValueIdx.ix2 b j) k = ValueIdx.ix3 b j k := funext fun a => Fin.ext (match a with | ⟨0, _⟩ => rfl | ⟨1, _⟩ => rfl | ⟨2, _⟩ => rfl)
  exact congrArg (· * coord k) ((congrArg (val_main_v253 (F := Ideal) x1) e).trans (v253_apply x1 b j k))

/-- The three of them side by side. -/
theorem v272_apply (b : Fin 2) (j : Fin 23) (l : Fin 3) :
    val_main_v272 (F := Ideal) x1 (ValueIdx.ix3 b j l) = Ideal.div (moment (weights x1 b j) l) (total (weights x1 b j)) := by
  have key : val_main_v272 (F := Ideal) x1 (ValueIdx.ix3 b j l) = (![val_main_v269 (F := Ideal) x1, val_main_v270 (F := Ideal) x1, val_main_v271 (F := Ideal) x1] l
      : FVec Ideal S2x23x1 .f32) (ValueIdx.ix3 b j (0 : Fin 1)) :=
    concatenate_ofFn_unit_apply (t := S2x23x3) (s₁ := S2x23x1) 2
      (![val_main_v269 (F := Ideal) x1, val_main_v270 (F := Ideal) x1, val_main_v271 (F := Ideal) x1]) concatenates_S2x23x1_S2x23x1_S2x23x1_S2x23x3_d2
      rfl rfl (ValueIdx.ix3 b j l) l rfl (ValueIdx.ix3 b j (0 : Fin 1)) (fun a ha => match a with
        | ⟨0, _⟩ => rfl
        | ⟨1, _⟩ => rfl
        | ⟨2, _⟩ => absurd rfl ha)
  rw [key]
  have e : ∀ i : S2x23.Idx, i 0 = b → i 1 = j → i = ValueIdx.ix2 b j := fun i h0 h1 => by rw [← h0, ← h1]; exact ValueIdx.eq_ix2 i
  match l with
  | ⟨0, _⟩ => exact (val_main_v269_apply (F := Ideal) x1 _).trans ((congrArg (val_main_v258 (F := Ideal) x1) (e _ rfl rfl)).trans (v258_apply x1 b j))
  | ⟨1, _⟩ => exact (val_main_v270_apply (F := Ideal) x1 _).trans ((congrArg (val_main_v263 (F := Ideal) x1) (e _ rfl rfl)).trans (v263_apply x1 b j))
  | ⟨2, _⟩ => exact (val_main_v271_apply (F := Ideal) x1 _).trans ((congrArg (val_main_v268 (F := Ideal) x1) (e _ rfl rfl)).trans (v268_apply x1 b j))

/-- The words of two and of four are these reals. -/
theorem two_eq : Ideal.ofBits .f32 0x40000000#32 = ((2 : ℝ) : EReal) := by
  simp [Ideal.ofBits, Ideal.ieee, -EReal.coe_mul]; norm_num
theorem four_eq : Ideal.ofBits .f32 0x40800000#32 = ((4 : ℝ) : EReal) := by
  simp [Ideal.ofBits, Ideal.ieee, -EReal.coe_mul]; norm_num

/-- Doubling twice is multiplying by four. -/
theorem scale (a : EReal) : a * Ideal.ofBits .f32 0x40000000#32 * Ideal.ofBits .f32 0x40000000#32 = a * Ideal.ofBits .f32 0x40800000#32 := by
  rw [two_eq, four_eq, mul_assoc, ← EReal.coe_mul]
  norm_num

/-- The reference's third result at an index. -/
theorem v280_apply (x2 : FVec Ideal S2x1x3 .f32) (b : Fin 2) (j : Fin 23) (l : Fin 3) :
    val_main_v280 (F := Ideal) x1 x2 (ValueIdx.ix3 b j l) =
      (Ideal.div (moment (weights x1 b j) l) (total (weights x1 b j)) * Ideal.ofBits .f32 0x40800000#32 - Ideal.ofBits .f32 0x42C80000#32)
        + x2 (ValueIdx.ix3 b (0 : Fin 1) l) := by
  rw [val_main_v280_apply, val_main_v278_apply, val_main_v276_apply, val_main_v274_apply, v272_apply, val_main_v279_apply, val_main_v277_apply,
    val_main_v275_apply, val_main_v273_apply, val_main_cst_127_apply, val_main_cst_128_apply, val_main_cst_129_apply]
  show (_ * Ideal.ofBits .f32 0x40000000#32 * Ideal.ofBits .f32 0x40000000#32 - _) + x2 _ = _
  rw [scale]
  refine congrArg (_ + ·) (congrArg x2 ?_)
  exact funext fun a => Fin.ext (match a with | ⟨0, _⟩ => rfl | ⟨1, _⟩ => rfl | ⟨2, _⟩ => rfl)

end Cert.ReferenceIdeal.Points
-- ==== Proof.ValuePoints.lean ====
/- The first and third results, the softplus of the volumes and the centres of mass: what the idealized program leaves, at the ideal values, is what the
   reference's operations compute from the same arguments; of the centres, where every volume has a nonzero total. -/
module

public import proofs.«01_k».proof.Proof.FrameI
public import proofs.«01_k».proof.Proof.RowValue
public import proofs.«01_k».proof.Proof.RefPoints

@[expose] public section

set_option maxRecDepth 16384

noncomputable section

namespace Cert.Values

open Idealize.ShloMosaic Idealize.ShloMosaic.TcCoe Idealize.ShloMosaic.Tactic
open Cert.KernelIdeal Cert.KernelIdeal.Gen Cert.KernelIdeal.Run Cert.KernelIdeal.Host Cert.KernelIdeal.Frame Cert.Sums
open Cert.ReferenceIdeal.Read (val_main_v248 val_main_v280)
open Cert.ReferenceIdeal.Points (weights)

/-- The closing host stretch hands the softplus values on, regrouped by item and joint. -/
theorem ops2_v21 (W : Valuation τ sig (Elt Ideal)) :
    StableHlo.after hostOps2 W main_v21 = shapeCast S2x23x50x50x50 (W main_v18_0) shapeCasts_S46x50x50x50_S2x23x50x50x50 := by
  after_results
  rfl

/-- The three coordinates of every row, regrouped by item and joint. -/
def picked (x : FVec Ideal S46x8x128 .f32) : FVec Ideal S2x23x3 .f32 :=
  shapeCast S2x23x3 (shapeCast S46x3 (extractStridedSlice S46x1x3 ![0, 0, 0] x slices_S46x8x128_S46x1x3_0_0_0) shapeCasts_S46x1x3_S46x3) shapeCasts_S46x3_S2x23x3

/-- It scales the rows' coordinates and moves them to the volume's centre. -/
theorem ops2_v30 (W : Valuation τ sig (Elt Ideal)) :
    StableHlo.after hostOps2 W main_v30 = (addf (subf (mulf (picked (W main_v18_1)) (broadcastInDim S2x23x3 ![] bcast_S_S2x23x3 (constant (F := Ideal) S_ .f32 0x40800000#32)))
      (broadcastInDim S2x23x3 ![] bcast_S_S2x23x3 (constant (F := Ideal) S_ .f32 0x42C80000#32)))
      (broadcastInDim S2x23x3 ![0, 1, 2] bcast_S2x1x3_S2x23x3_0_1_2 (W main_arg2)) : FVec Ideal S2x23x3 .f32) := by
  after_results
  rfl

/-- The row of item `b` and joint `j`. -/
theorem picked_apply (x : FVec Ideal S46x8x128 .f32) (b : Fin 2) (j : Fin 23) (l : Fin 3) (n : Fin 46) (hn : n.val = b.val * 23 + j.val) :
    picked x (ValueIdx.ix3 b j l) = x (ValueIdx.ix3 n (0 : Fin 8) (⟨l.val, by omega⟩ : Fin 128)) := by
  unfold picked
  refine (shapeCast_apply _ _ _ (ValueIdx.ix2 n l) ?_).trans ?_
  · rw [Shape.rowMajor_val_two, Shape.rowMajor_val_three]
    show n.val * 3 + l.val = (b.val * 23 + j.val) * 3 + l.val
    rw [hn]
  refine (shapeCast_apply _ _ _ (ValueIdx.ix3 n (0 : Fin 1) l) ?_).trans ?_
  · rw [Shape.rowMajor_val_two, Shape.rowMajor_val_three]
    show (n.val * 1 + 0) * 3 + l.val = n.val * 3 + l.val
    omega
  exact extractStridedSlice_apply _ _ _ _ _ fun a => match a with
    | ⟨0, _⟩ => by show n.val = 0 + n.val; omega
    | ⟨1, _⟩ => rfl
    | ⟨2, _⟩ => by show l.val = 0 + l.val; omega

variable (m : (ℓ : Loc nD τ sig) → Buf (Elt Ideal) ℓ) (c : Dev nD)

/-- The volumes as the program is given them. -/
abbrev vols : FVec Ideal S2x23x50x50x50 .f32 := m ((c : Thread nD τ).loc main_arg1)

/-- The array that the first kernel reads; and at an index. -/
abbrev kvols : FVec Ideal S46x50x50x50 .f32 := at5 m c main_v17
theorem at5_v17 (b : Fin 2) (j : Fin 23) (x y z : Fin 50) (n : Fin 46) (hn : n.val = b.val * 23 + j.val) :
    kvols m c (ValueIdx.ix4 n x y z) = vols m c (ValueIdx.ix5 b j x y z) := by
  refine (congrFun (vols_eq m c) _).trans (shapeCast_apply _ _ _ (ValueIdx.ix5 b j x y z) ?_)
  rw [Shape.rowMajor_val_four, Shape.rowMajor_val_five]
  show (((b.val * 23 + j.val) * 50 + x.val) * 50 + y.val) * 50 + z.val = ((n.val * 50 + x.val) * 50 + y.val) * 50 + z.val
  rw [hn]

/-- The softplus values: the idealized program's first result is the reference's. -/
theorem v21_eq : W8 m c main_v21 = val_main_v248 (F := Ideal) (vols m c) := by
  have hv : W7 m c main_v18_0 = Soft.softs (kvols m c) :=
    (W7_of m c main_v18_0 (by decide)).trans ((Pipeline.afterRegion_arr (cfg := cfg0) (Soft.dat0 (at5 m) c) (V5 m c) (launch0 (F := Ideal)).win.arr_inj 1).trans
      (Soft.arr_1 (at5 m) c))
  refine (ops2_v21 (W7 m c)).trans ?_
  rw [hv]
  funext i
  obtain ⟨b, j, x, y, z, rfl⟩ : ∃ (b : Fin 2) (j : Fin 23) (x y z : Fin 50), i = ValueIdx.ix5 b j x y z :=
    ⟨i 0, i 1, i 2, i 3, i 4, ValueIdx.eq_ix5 i⟩
  have hb := b.isLt; have hj := j.isLt
  obtain ⟨n, e⟩ : ∃ n : Fin 46, n.val = b.val * 23 + j.val := ⟨⟨b.val * 23 + j.val, by omega⟩, rfl⟩
  refine (shapeCast_apply _ _ _ (ValueIdx.ix4 n x y z) ?_).trans ?_
  · rw [Shape.rowMajor_val_four, Shape.rowMajor_val_five]
    show ((n.val * 50 + x.val) * 50 + y.val) * 50 + z.val = (((b.val * 23 + j.val) * 50 + x.val) * 50 + y.val) * 50 + z.val
    rw [e]
  rw [ReferenceIdeal.Points.v248_apply]
  show Soft.sp (F := Ideal) (kvols m c (ValueIdx.ix4 n x y z)) = _
  rw [at5_v17 m c b j x y z n e, Soft.sp_ideal]

/-- The kernel's weights of a volume are the reference's. -/
theorem weights_eq (b : Fin 2) (j : Fin 23) (n : Fin 46) (hn : n.val = b.val * 23 + j.val) :
    (fun x y z => Soft.sp (F := Ideal) (kvols m c (ValueIdx.ix4 n x y z)) : Fin 50 → Fin 50 → Fin 50 → EReal) = weights (vols m c) b j := by
  funext x y z
  rw [at5_v17 m c b j x y z n hn, Soft.sp_ideal]
  exact (ReferenceIdeal.Points.v248_apply (vols m c) (ValueIdx.ix5 b j x y z)).symm

/-- The centres of mass: the idealized program's third result is the reference's, if no volume's weights total zero. -/
theorem v30_eq (h : ∀ (b : Fin 2) (j : Fin 23), total (weights (vols m c) b j) ≠ 0) :
    W8 m c main_v30 = val_main_v280 (F := Ideal) (vols m c) (m ((c : Thread nD τ).loc main_arg2)) := by
  have hv : W7 m c main_v18_1 = Soft.rows (F := Ideal) (kvols m c) :=
    (W7_of m c main_v18_1 (by decide)).trans ((Pipeline.afterRegion_arr (cfg := cfg0) (Soft.dat0 (at5 m) c) (V5 m c) (launch0 (F := Ideal)).win.arr_inj 2).trans
      (Soft.arr_2 (at5 m) c))
  have h2 : W7 m c main_arg2 = m ((c : Thread nD τ).loc main_arg2) :=
    (W7_of m c main_arg2 (by decide)).trans ((W6_of m c main_arg2 (by decide)).trans (by
      rw [V5_of m c main_arg2 (by decide), V4_of m c main_arg2 (by decide), V3_of m c main_arg2 (by decide), V2_of m c main_arg2 (by decide), V1_of m c main_arg2 (by decide)]))
  refine (ops2_v30 (W7 m c)).trans ?_
  rw [hv, h2]
  funext i
  obtain ⟨b, j, l, rfl⟩ : ∃ (b : Fin 2) (j : Fin 23) (l : Fin 3), i = ValueIdx.ix3 b j l := ⟨i 0, i 1, i 2, ValueIdx.eq_ix3 i⟩
  have hb := b.isLt; have hj := j.isLt
  obtain ⟨n, e⟩ : ∃ n : Fin 46, n.val = b.val * 23 + j.val := ⟨⟨b.val * 23 + j.val, by omega⟩, rfl⟩
  rw [ReferenceIdeal.Points.v280_apply]
  have hp : picked (Soft.rows (F := Ideal) (kvols m c)) (ValueIdx.ix3 b j l) = Ideal.div (moment (weights (vols m c) b j) l) (total (weights (vols m c) b j)) := by
    rw [picked_apply _ b j l n e]
    refine (Soft.row_apply (fun y => Soft.sp (F := Ideal) (kvols m c (ValueIdx.ix4 n (y 0) (y 1) (y 2)))) (0 : Fin 8) l).trans ?_
    show moment (fun x y z => Soft.sp (F := Ideal) (kvols m c (ValueIdx.ix4 n x y z))) l
      * Ideal.div 1 (total fun x y z => Soft.sp (F := Ideal) (kvols m c (ValueIdx.ix4 n x y z))) = _
    rw [weights_eq m c b j n e]
    exact mul_recip _ _ (h b j)
  have hc : broadcastInDim S2x23x3 ![0, 1, 2] bcast_S2x1x3_S2x23x3_0_1_2 (m ((c : Thread nD τ).loc main_arg2)) (ValueIdx.ix3 b j l)
      = m ((c : Thread nD τ).loc main_arg2) (ValueIdx.ix3 b (0 : Fin 1) l) :=
    broadcastInDim_apply _ _ _ _ (ValueIdx.ix3 b (0 : Fin 1) l) (fun a => match a with
      | ⟨0, _⟩ => by show b.val = if (2 : ℕ) = 1 then 0 else b.val; rw [if_neg (by decide)]
      | ⟨1, _⟩ => by show 0 = if (1 : ℕ) = 1 then 0 else j.val; rw [if_pos rfl]
      | ⟨2, _⟩ => by show l.val = if (3 : ℕ) = 1 then 0 else l.val; rw [if_neg (by decide)])
  show (picked (Soft.rows (F := Ideal) (kvols m c)) (ValueIdx.ix3 b j l) * Ideal.ofBits .f32 0x40800000#32 - Ideal.ofBits .f32 0x42C80000#32)
    + broadcastInDim S2x23x3 ![0, 1, 2] bcast_S2x1x3_S2x23x3_0_1_2 (m ((c : Thread nD τ).loc main_arg2)) (ValueIdx.ix3 b j l) = _
  rw [hp, hc]

end Cert.Values
-- ==== Proof.Values.lean ====
/- The value claim: from the same arguments, the centres on the canvas and no volume at minus infinity throughout, the idealized program's three results
   are the reference's. -/
module

public import proofs.«01_k».proof.Defs
public import proofs.«01_k».proof.Proof.Mass
public import proofs.«01_k».proof.Proof.ValueCanvas
public import proofs.«01_k».proof.Proof.ValuePoints
public import proofs.«01_k».proof.Proof.Gen.ReferenceIdeal.Run
public import Idealize.ShloMosaic.Adequacy
public import Idealize.ShloMosaic.Init

@[expose] public section

set_option maxRecDepth 16384

noncomputable section

namespace Cert.Values

open Idealize.ShloMosaic Idealize.ShloMosaic.TcCoe Idealize.SL.Sem
open Cert.KernelIdeal.Run (dev0)
open Cert.ReferenceIdeal.Points (weights)

/-- A value that compares above minus infinity's word is above minus infinity. -/
theorem above_bot (v : EReal) (h : FloatOps.cmpf (F := Ideal) (φ := .f32) .ogt v (FloatOps.ofBits .f32 0xFF800000#32) = 1#1) : ⊥ < v := by
  have hb : Ideal.ofBits .f32 0xFF800000#32 = ⊥ := by simp [Ideal.ofBits, Ideal.ieee]
  have h' : BitVec.ofBool (decide (Ideal.ofBits .f32 0xFF800000#32 < v)) = 1#1 := h
  rw [hb] at h'
  by_contra hc
  rw [decide_eq_false hc] at h'
  exact absurd h' (by decide)

/-- With an entry above minus infinity in every volume, no volume's weights total zero. -/
theorem total_ne (hm : FVec Ideal Cert.ReferenceIdeal.S2x6x23x160x160 .f32) (vol : FVec Ideal Cert.ReferenceIdeal.S2x23x50x50x50 .f32)
    (mid : FVec Ideal Cert.ReferenceIdeal.S2x1x3 .f32) (v : IVec Cert.ReferenceIdeal.S2x6x2 32)
    (h : Cert.Pre_in_canvas_some_mass.fn (F := Ideal) hm vol mid v = fun _ => 1#1) (b : Fin 2) (j : Fin 23) : Sums.total (weights vol b j) ≠ 0 := by
  obtain ⟨i, hi, e⟩ := Mass.entry hm vol mid v h b j
  have hp : ∀ x y z, weights vol b j x y z = Sums.softplus (vol (ValueIdx.ix5 b j x y z)) := fun x y z => ReferenceIdeal.Points.v248_apply vol _
  refine Sums.total_ne_zero _ (fun x y z => by rw [hp]; exact Sums.softplus_nonneg _) (i 2) (i 3) (i 4) ?_
  exact lt_of_lt_of_eq (Sums.softplus_pos _ (above_bot _ e))
    ((congrArg (fun k => Sums.softplus (vol k)) (ReferenceIdeal.Points.of_item i (congrFun hi 0) (congrFun hi 1)).symm).trans (hp (i 2) (i 3) (i 4)).symm)

variable (m : (ℓ : Loc Cert.KernelIdeal.nD Cert.KernelIdeal.τ Cert.KernelIdeal.sig) → Buf (Elt Ideal) ℓ)

/-- The second precondition puts the centres on the canvas. -/
theorem onCanvas (h : Cert.Pre_KernelIdeal_in_canvas_some_mass m) :
    Cert.KernelIdeal.Frame.OnCanvas (F := Ideal) (m ((dev0 : Thread Cert.KernelIdeal.nD Cert.KernelIdeal.τ).loc Cert.KernelIdeal.main_arg3)) :=
  Cert.Canvas.centre _ _ _ _ (Cert.Mass.in_canvas _ _ _ _ (h dev0))

/-- The idealized program and the reference end with the same three results. -/
theorem algebraic : Cert.algebraic_KernelIdeal_ReferenceIdeal_pre_in_canvas_some_mass := by
  intro m g m' g' h hargs
  have hc : ∀ c : Dev Cert.KernelIdeal.nD, c = dev0 := fun c => Subsingleton.elim _ _
  refine ⟨fun c => Cert.KernelIdeal.Run.W8 m c Cert.KernelIdeal.main_v21, fun c => Cert.KernelIdeal.Run.W8 m c Cert.KernelIdeal.main_v20,
    fun c => Cert.KernelIdeal.Run.W8 m c Cert.KernelIdeal.main_v30, ?_, ?_⟩
  · exact (θ_run _ _ _).mono (fun _ q => q.1) (Cert.KernelIdeal.Frame.run_read m g (onCanvas m h))
  · refine (θ_run _ _ _).mono (fun _ q c => ?_) (Cert.ReferenceIdeal.Value.run m' g')
    obtain ⟨q1, q2, q3, q4⟩ := q c
    obtain ⟨a0, a1, a2, a3⟩ := hargs c
    obtain rfl := hc c
    refine ⟨q1.trans ?_, q2.trans ?_, q3.trans ?_, q4⟩
    · exact (Cert.ReferenceIdeal.Read.val_main_v248_eq _).trans
        ((congrArg (Cert.ReferenceIdeal.Read.val_main_v248 (F := Ideal)) a1).trans (v21_eq m dev0).symm)
    · exact (Cert.ReferenceIdeal.Read.val_main_v247_eq _).trans
        ((congrArg₂ (Cert.ReferenceIdeal.Read.val_main_v247 (F := Ideal)) a0 a3).trans (v20_eq m (onCanvas m h)).symm)
    · exact (Cert.ReferenceIdeal.Read.val_main_v280_eq _).trans
        ((congrArg₂ (Cert.ReferenceIdeal.Read.val_main_v280 (F := Ideal)) a1 a2).trans (v30_eq m dev0 (total_ne _ _ _ _ (h dev0))).symm)

end Cert.Values
-- ==== Proof.lean ====
module

public import proofs.«01_k».proof.Defs
public import proofs.«01_k».proof.Proof.Frame
public import proofs.«01_k».proof.Proof.FrameI
public import proofs.«01_k».proof.Proof.Values
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_canvas
public import proofs.«01_k».proof.Proof.Gen.Pre_in_canvas_some_mass
public import Idealize.ShloMosaic.Adequacy
public import Idealize.ShloMosaic.Init

@[expose] public section

noncomputable section

namespace Cert.Proof

open Idealize.ShloMosaic Idealize.ShloMosaic.TcCoe Idealize.SL.Sem

/-- The printed kernel, at the bits: with the centres on the canvas it runs, leaves its arguments unchanged and its counters at zero. -/
theorem frame_kernel : Cert.quiescent_Kernel := fun m g h =>
  (θ_run _ _ _).mono (fun _ q => ⟨fun c => (q.1 c).2.2.2, q.2⟩) (Cert.Kernel.Frame.run_read m g (Cert.Canvas.centre _ _ _ _ (h Cert.Kernel.Run.dev0)))

/-- The same of the idealized kernel, at the extended reals. -/
theorem frame_kernelIdeal : Cert.quiescent_KernelIdeal := fun m g h =>
  (θ_run _ _ _).mono (fun _ q => ⟨fun c => (q.1 c).2.2.2, q.2⟩) (Cert.KernelIdeal.Frame.run_read m g (Cert.Canvas.centre _ _ _ _ (h Cert.KernelIdeal.Run.dev0)))

/-- The idealized kernel's frame again, under the value claim's precondition. -/
theorem frame_kernelIdeal_mass : Cert.quiescent_KernelIdeal_pre_in_canvas_some_mass := fun m g h =>
  (θ_run _ _ _).mono (fun _ q => ⟨fun c => (q.1 c).2.2.2, q.2⟩) (Cert.KernelIdeal.Frame.run_read m g (Cert.Values.onCanvas m h))

/-- The reference has no semaphore, so its counters are at zero for want of any. -/
theorem no_counter (s t : GSem Cert.ReferenceIdeal.nD Cert.ReferenceIdeal.τ Cert.ReferenceIdeal.sig → ℤ) : s = t :=
  funext fun g => match g with
    | (_, .reg x) => Fin.elim0 x
    | (_, .dma x) => Fin.elim0 x

/-- The reference, at the extended reals: it runs and leaves its arguments unchanged. -/
theorem frame_reference : Cert.quiescent_ReferenceIdeal := fun m g _ =>
  (θ_run _ _ _).mono (fun _ q => ⟨fun c => (q c).2.2.2, no_counter _ _⟩) (Cert.ReferenceIdeal.Value.run m g)

/-- Everything that the certificate claims. -/
theorem claim : Cert.Claim :=
  ⟨Cert.Kernel.Gen.facts, Cert.KernelIdeal.Gen.facts, Cert.ReferenceIdeal.Gen.facts, Cert.Pre_in_canvas.Gen.facts, Cert.Pre_in_canvas_some_mass.Gen.facts,
    frame_kernel, frame_kernelIdeal, frame_kernelIdeal_mass, frame_reference, fun m g _ => frame_reference m g trivial, trivial, Cert.Values.algebraic⟩

end Cert.Proof

end
